-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 2048, 1024]⟩ ⟨3, ![2, 2048, 1024]⟩ (Layout.meshBlock [2, 2, 2] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![1024, 1024]⟩ ⟨2, ![2048, 1024]⟩ (Layout.meshBlock [2, 2, 2] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x2048x1024 : Shape := ⟨3, ![1, 2048, 1024]⟩
abbrev S1024 : Shape := ⟨1, ![1024]⟩
abbrev S1x1024 : Shape := ⟨2, ![1, 1024]⟩
abbrev S1024x1024 : Shape := ⟨2, ![1024, 1024]⟩
abbrev S8x64x1024 : Shape := ⟨3, ![8, 64, 1024]⟩
abbrev S4x64x1024 : Shape := ⟨3, ![4, 64, 1024]⟩
abbrev S8 : Shape := ⟨1, ![8]⟩
abbrev S4 : Shape := ⟨1, ![4]⟩
abbrev S_ : Shape := ⟨0, ![]⟩
abbrev S1 : Shape := ⟨1, ![1]⟩
abbrev S1x64x1024 : Shape := ⟨3, ![1, 64, 1024]⟩
abbrev S64x1024 : Shape := ⟨2, ![64, 1024]⟩
abbrev S64 : Shape := ⟨1, ![64]⟩
abbrev S64x1 : Shape := ⟨2, ![64, 1]⟩

abbrev nBuf : Space → Nat
  | .hbm => 4
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024, .f32⟩
  | .hbm, ⟨2, _⟩ => ⟨S1x1024, .f32⟩
  | .hbm, ⟨3, _⟩ => ⟨S1024x1024, .bf16⟩
  | .local _ .vmem, ⟨0, _⟩ => ⟨S1024x1024, .bf16⟩
  | .local _ .vmem, ⟨1, _⟩ => ⟨S8x64x1024, .f32⟩
  | .local _ .vmem, ⟨2, _⟩ => ⟨S8x64x1024, .f32⟩
  | .local _ .vmem, ⟨3, _⟩ => ⟨S8x64x1024, .bf16⟩
  | .local _ .vmem, ⟨4, _⟩ => ⟨S8x64x1024, .bf16⟩
  | .local _ .vmem, ⟨5, _⟩ => ⟨S4x64x1024, .bf16⟩
  | .local _ .vmem, ⟨6, _⟩ => ⟨S4x64x1024, .bf16⟩
  | .local _ .vmem, ⟨7, _⟩ => ⟨S4x64x1024, .bf16⟩
  | .local _ .vmem, ⟨8, _⟩ => ⟨S1x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 50 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | _ => false

abbrev sig : RefSig :=
  (ofTc nBuf bufTy 1 50 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c0_i32 : BitVec 32) : Fin 3 → Nat :=
  let c0_i32_8 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32 : BitVec 32 := 1024#32
  let v17 : BitVec 32 := Scalar.muli v5 c1024_i32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let c512_i32 : BitVec 32 := 512#32
  let v13 : BitVec 32 := Scalar.muli v12 c512_i32
  let c256_i32 : BitVec 32 := 256#32
  let v14 : BitVec 32 := Scalar.muli v2 c256_i32
  let v15 : BitVec 32 := Scalar.addi v14 c0_i32
  let v16 : BitVec 32 := Scalar.addi v13 v15
  let v18 : BitVec 32 := Scalar.addi v17 v16
  let c0_i32_13 : BitVec 32 := 0#32
  ![0, v18.toNat, 0]
def k0_off2 (d0 : Dev nD) (c0_i32 : BitVec 32) : Fin 3 → Nat :=
  let c0_i32_14 : BitVec 32 := 0#32
  let c1_i32_6 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v19 : BitVec 32 := Scalar.subi c1_i32_6 v5
  let c1024_i32_7 : BitVec 32 := 1024#32
  let v20 : BitVec 32 := Scalar.muli v19 c1024_i32_7
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let c512_i32 : BitVec 32 := 512#32
  let v13 : BitVec 32 := Scalar.muli v12 c512_i32
  let c256_i32 : BitVec 32 := 256#32
  let v14 : BitVec 32 := Scalar.muli v2 c256_i32
  let v15 : BitVec 32 := Scalar.addi v14 c0_i32
  let v16 : BitVec 32 := Scalar.addi v13 v15
  let v21 : BitVec 32 := Scalar.addi v20 v16
  let c0_i32_19 : BitVec 32 := 0#32
  ![0, v21.toNat, 0]
def k0_off3 (d0 : Dev nD) (c0_i32_73 : BitVec 32) : Fin 3 → Nat :=
  let c0_i32_77 : BitVec 32 := 0#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1024_i32_74 : BitVec 32 := 1024#32
  let v102 : BitVec 32 := Scalar.muli v5 c1024_i32_74
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let c512_i32_70 : BitVec 32 := 512#32
  let v97 : BitVec 32 := Scalar.muli v12 c512_i32_70
  let c1_i32_71 : BitVec 32 := 1#32
  let v98 : BitVec 32 := Scalar.subi c1_i32_71 v2
  let c256_i32_72 : BitVec 32 := 256#32
  let v99 : BitVec 32 := Scalar.muli v98 c256_i32_72
  let v100 : BitVec 32 := Scalar.addi v99 c0_i32_73
  let v101 : BitVec 32 := Scalar.addi v97 v100
  let v103 : BitVec 32 := Scalar.addi v102 v101
  let c0_i32_82 : BitVec 32 := 0#32
  ![0, v103.toNat, 0]
def k0_off4 (d0 : Dev nD) (c0_i32_73 : BitVec 32) : Fin 3 → Nat :=
  let c0_i32_83 : BitVec 32 := 0#32
  let c1_i32_75 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v104 : BitVec 32 := Scalar.subi c1_i32_75 v5
  let c1024_i32_76 : BitVec 32 := 1024#32
  let v105 : BitVec 32 := Scalar.muli v104 c1024_i32_76
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let c512_i32_70 : BitVec 32 := 512#32
  let v97 : BitVec 32 := Scalar.muli v12 c512_i32_70
  let c1_i32_71 : BitVec 32 := 1#32
  let v98 : BitVec 32 := Scalar.subi c1_i32_71 v2
  let c256_i32_72 : BitVec 32 := 256#32
  let v99 : BitVec 32 := Scalar.muli v98 c256_i32_72
  let v100 : BitVec 32 := Scalar.addi v99 c0_i32_73
  let v101 : BitVec 32 := Scalar.addi v97 v100
  let v106 : BitVec 32 := Scalar.addi v105 v101
  let c0_i32_88 : BitVec 32 := 0#32
  ![0, v106.toNat, 0]
def k0_dev1 (d0 : Dev nD) : Nat :=
  let c0_i32_145 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_144 : BitVec 32 := 4#32
  let v186 : BitVec 32 := Scalar.muli v9 c4_i32_144
  let v187 : BitVec 32 := Scalar.addi c0_i32_145 v186
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_146 : BitVec 32 := 2#32
  let v188 : BitVec 32 := Scalar.muli v5 c2_i32_146
  let v189 : BitVec 32 := Scalar.addi v187 v188
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_147 : BitVec 32 := 1#32
  let v190 : BitVec 32 := Scalar.muli v8 c1_i32_147
  let v191 : BitVec 32 := Scalar.addi v189 v190
  v191.toNat
def k0_dev2 (d0 : Dev nD) : Nat :=
  let c0_i32_150 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_149 : BitVec 32 := 4#32
  let v192 : BitVec 32 := Scalar.muli v2 c4_i32_149
  let v193 : BitVec 32 := Scalar.addi c0_i32_150 v192
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_151 : BitVec 32 := 2#32
  let v194 : BitVec 32 := Scalar.muli v10 c2_i32_151
  let v195 : BitVec 32 := Scalar.addi v193 v194
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_152 : BitVec 32 := 1#32
  let v196 : BitVec 32 := Scalar.muli v8 c1_i32_152
  let v197 : BitVec 32 := Scalar.addi v195 v196
  v197.toNat
def k0_dev3 (d0 : Dev nD) : Nat :=
  let c0_i32_155 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_154 : BitVec 32 := 4#32
  let v198 : BitVec 32 := Scalar.muli v2 c4_i32_154
  let v199 : BitVec 32 := Scalar.addi c0_i32_155 v198
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_156 : BitVec 32 := 2#32
  let v200 : BitVec 32 := Scalar.muli v5 c2_i32_156
  let v201 : BitVec 32 := Scalar.addi v199 v200
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_157 : BitVec 32 := 1#32
  let v202 : BitVec 32 := Scalar.muli v11 c1_i32_157
  let v203 : BitVec 32 := Scalar.addi v201 v202
  v203.toNat
def k0_dev4 (d0 : Dev nD) : Nat :=
  let c0_i32_175 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_174 : BitVec 32 := 4#32
  let v216 : BitVec 32 := Scalar.muli v2 c4_i32_174
  let v217 : BitVec 32 := Scalar.addi c0_i32_175 v216
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_176 : BitVec 32 := 2#32
  let v218 : BitVec 32 := Scalar.muli v10 c2_i32_176
  let v219 : BitVec 32 := Scalar.addi v217 v218
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_177 : BitVec 32 := 1#32
  let v220 : BitVec 32 := Scalar.muli v8 c1_i32_177
  let v221 : BitVec 32 := Scalar.addi v219 v220
  v221.toNat
def k0_dev5 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_197 : BitVec 32 := 4#32
  let v242 : BitVec 32 := Scalar.muli v2 c4_i32_197
  let v243 : BitVec 32 := Scalar.addi c0_i32_198 v242
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_199 : BitVec 32 := 2#32
  let v244 : BitVec 32 := Scalar.muli v10 c2_i32_199
  let v245 : BitVec 32 := Scalar.addi v243 v244
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v246 : BitVec 32 := Scalar.muli v8 c1_i32_200
  let v247 : BitVec 32 := Scalar.addi v245 v246
  v247.toNat
def k0_dev6 (d0 : Dev nD) : Nat :=
  let c0_i32_221 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_220 : BitVec 32 := 4#32
  let v268 : BitVec 32 := Scalar.muli v2 c4_i32_220
  let v269 : BitVec 32 := Scalar.addi c0_i32_221 v268
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_222 : BitVec 32 := 2#32
  let v270 : BitVec 32 := Scalar.muli v10 c2_i32_222
  let v271 : BitVec 32 := Scalar.addi v269 v270
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_223 : BitVec 32 := 1#32
  let v272 : BitVec 32 := Scalar.muli v8 c1_i32_223
  let v273 : BitVec 32 := Scalar.addi v271 v272
  v273.toNat
def k0_dev7 (d0 : Dev nD) : Nat :=
  let c0_i32_244 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_243 : BitVec 32 := 4#32
  let v294 : BitVec 32 := Scalar.muli v2 c4_i32_243
  let v295 : BitVec 32 := Scalar.addi c0_i32_244 v294
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_245 : BitVec 32 := 2#32
  let v296 : BitVec 32 := Scalar.muli v10 c2_i32_245
  let v297 : BitVec 32 := Scalar.addi v295 v296
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_246 : BitVec 32 := 1#32
  let v298 : BitVec 32 := Scalar.muli v8 c1_i32_246
  let v299 : BitVec 32 := Scalar.addi v297 v298
  v299.toNat
def k0_dev8 (d0 : Dev nD) : Nat :=
  let c0_i32_267 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_266 : BitVec 32 := 4#32
  let v320 : BitVec 32 := Scalar.muli v2 c4_i32_266
  let v321 : BitVec 32 := Scalar.addi c0_i32_267 v320
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_268 : BitVec 32 := 2#32
  let v322 : BitVec 32 := Scalar.muli v10 c2_i32_268
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_269 : BitVec 32 := 1#32
  let v324 : BitVec 32 := Scalar.muli v8 c1_i32_269
  let v325 : BitVec 32 := Scalar.addi v323 v324
  v325.toNat
def k0_dev9 (d0 : Dev nD) : Nat :=
  let c0_i32_290 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_289 : BitVec 32 := 4#32
  let v346 : BitVec 32 := Scalar.muli v2 c4_i32_289
  let v347 : BitVec 32 := Scalar.addi c0_i32_290 v346
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_291 : BitVec 32 := 2#32
  let v348 : BitVec 32 := Scalar.muli v10 c2_i32_291
  let v349 : BitVec 32 := Scalar.addi v347 v348
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_292 : BitVec 32 := 1#32
  let v350 : BitVec 32 := Scalar.muli v8 c1_i32_292
  let v351 : BitVec 32 := Scalar.addi v349 v350
  v351.toNat
def k0_dev10 (d0 : Dev nD) : Nat :=
  let c0_i32_313 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_312 : BitVec 32 := 4#32
  let v372 : BitVec 32 := Scalar.muli v2 c4_i32_312
  let v373 : BitVec 32 := Scalar.addi c0_i32_313 v372
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_314 : BitVec 32 := 2#32
  let v374 : BitVec 32 := Scalar.muli v10 c2_i32_314
  let v375 : BitVec 32 := Scalar.addi v373 v374
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_315 : BitVec 32 := 1#32
  let v376 : BitVec 32 := Scalar.muli v8 c1_i32_315
  let v377 : BitVec 32 := Scalar.addi v375 v376
  v377.toNat
def k0_dev11 (d0 : Dev nD) : Nat :=
  let c0_i32_336 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_335 : BitVec 32 := 4#32
  let v398 : BitVec 32 := Scalar.muli v2 c4_i32_335
  let v399 : BitVec 32 := Scalar.addi c0_i32_336 v398
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_337 : BitVec 32 := 2#32
  let v400 : BitVec 32 := Scalar.muli v10 c2_i32_337
  let v401 : BitVec 32 := Scalar.addi v399 v400
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_338 : BitVec 32 := 1#32
  let v402 : BitVec 32 := Scalar.muli v8 c1_i32_338
  let v403 : BitVec 32 := Scalar.addi v401 v402
  v403.toNat
def k0_dev12 (d0 : Dev nD) : Nat :=
  let c0_i32_377 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_376 : BitVec 32 := 4#32
  let v442 : BitVec 32 := Scalar.muli v9 c4_i32_376
  let v443 : BitVec 32 := Scalar.addi c0_i32_377 v442
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_378 : BitVec 32 := 2#32
  let v444 : BitVec 32 := Scalar.muli v5 c2_i32_378
  let v445 : BitVec 32 := Scalar.addi v443 v444
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_379 : BitVec 32 := 1#32
  let v446 : BitVec 32 := Scalar.muli v8 c1_i32_379
  let v447 : BitVec 32 := Scalar.addi v445 v446
  v447.toNat
def k0_dev13 (d0 : Dev nD) : Nat :=
  let c0_i32_389 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_388 : BitVec 32 := 4#32
  let v456 : BitVec 32 := Scalar.muli v2 c4_i32_388
  let v457 : BitVec 32 := Scalar.addi c0_i32_389 v456
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_390 : BitVec 32 := 2#32
  let v458 : BitVec 32 := Scalar.muli v5 c2_i32_390
  let v459 : BitVec 32 := Scalar.addi v457 v458
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_391 : BitVec 32 := 1#32
  let v460 : BitVec 32 := Scalar.muli v11 c1_i32_391
  let v461 : BitVec 32 := Scalar.addi v459 v460
  v461.toNat
def k0_off5 (d0 : Dev nD) (c0_i32_398 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let c512_i32_396 : BitVec 32 := 512#32
  let v470 : BitVec 32 := Scalar.muli v12 c512_i32_396
  let c256_i32_397 : BitVec 32 := 256#32
  let v471 : BitVec 32 := Scalar.muli v2 c256_i32_397
  let v472 : BitVec 32 := Scalar.addi v471 c0_i32_398
  let v473 : BitVec 32 := Scalar.addi v470 v472
  let v488 : Index := Scalar.indexCast v473
  let c0_403 : Index := 0#32
  ![v488.toNat, 0]
def k0_dev14 (d0 : Dev nD) : Nat :=
  let c0_i32_436 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_435 : BitVec 32 := 4#32
  let v518 : BitVec 32 := Scalar.muli v9 c4_i32_435
  let v519 : BitVec 32 := Scalar.addi c0_i32_436 v518
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_437 : BitVec 32 := 2#32
  let v520 : BitVec 32 := Scalar.muli v5 c2_i32_437
  let v521 : BitVec 32 := Scalar.addi v519 v520
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_438 : BitVec 32 := 1#32
  let v522 : BitVec 32 := Scalar.muli v8 c1_i32_438
  let v523 : BitVec 32 := Scalar.addi v521 v522
  v523.toNat
def k0_dev15 (d0 : Dev nD) : Nat :=
  let c0_i32_448 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_447 : BitVec 32 := 4#32
  let v532 : BitVec 32 := Scalar.muli v2 c4_i32_447
  let v533 : BitVec 32 := Scalar.addi c0_i32_448 v532
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_449 : BitVec 32 := 2#32
  let v534 : BitVec 32 := Scalar.muli v5 c2_i32_449
  let v535 : BitVec 32 := Scalar.addi v533 v534
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_450 : BitVec 32 := 1#32
  let v536 : BitVec 32 := Scalar.muli v11 c1_i32_450
  let v537 : BitVec 32 := Scalar.addi v535 v536
  v537.toNat
def k0_dev16 (d0 : Dev nD) : Nat :=
  let c0_i32_496 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_495 : BitVec 32 := 4#32
  let v594 : BitVec 32 := Scalar.muli v9 c4_i32_495
  let v595 : BitVec 32 := Scalar.addi c0_i32_496 v594
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_497 : BitVec 32 := 2#32
  let v596 : BitVec 32 := Scalar.muli v5 c2_i32_497
  let v597 : BitVec 32 := Scalar.addi v595 v596
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_498 : BitVec 32 := 1#32
  let v598 : BitVec 32 := Scalar.muli v8 c1_i32_498
  let v599 : BitVec 32 := Scalar.addi v597 v598
  v599.toNat
def k0_dev17 (d0 : Dev nD) : Nat :=
  let c0_i32_508 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_507 : BitVec 32 := 4#32
  let v608 : BitVec 32 := Scalar.muli v2 c4_i32_507
  let v609 : BitVec 32 := Scalar.addi c0_i32_508 v608
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_509 : BitVec 32 := 2#32
  let v610 : BitVec 32 := Scalar.muli v5 c2_i32_509
  let v611 : BitVec 32 := Scalar.addi v609 v610
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_510 : BitVec 32 := 1#32
  let v612 : BitVec 32 := Scalar.muli v11 c1_i32_510
  let v613 : BitVec 32 := Scalar.addi v611 v612
  v613.toNat
def k0_dev18 (d0 : Dev nD) : Nat :=
  let c0_i32_556 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_555 : BitVec 32 := 4#32
  let v670 : BitVec 32 := Scalar.muli v9 c4_i32_555
  let v671 : BitVec 32 := Scalar.addi c0_i32_556 v670
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_557 : BitVec 32 := 2#32
  let v672 : BitVec 32 := Scalar.muli v5 c2_i32_557
  let v673 : BitVec 32 := Scalar.addi v671 v672
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_558 : BitVec 32 := 1#32
  let v674 : BitVec 32 := Scalar.muli v8 c1_i32_558
  let v675 : BitVec 32 := Scalar.addi v673 v674
  v675.toNat
def k0_dev19 (d0 : Dev nD) : Nat :=
  let c0_i32_568 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_567 : BitVec 32 := 4#32
  let v684 : BitVec 32 := Scalar.muli v2 c4_i32_567
  let v685 : BitVec 32 := Scalar.addi c0_i32_568 v684
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_569 : BitVec 32 := 2#32
  let v686 : BitVec 32 := Scalar.muli v5 c2_i32_569
  let v687 : BitVec 32 := Scalar.addi v685 v686
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_570 : BitVec 32 := 1#32
  let v688 : BitVec 32 := Scalar.muli v11 c1_i32_570
  let v689 : BitVec 32 := Scalar.addi v687 v688
  v689.toNat
def k0_off6 (d0 : Dev nD) (c0_i32_611 : BitVec 32) : Fin 2 → Nat :=
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let c512_i32_608 : BitVec 32 := 512#32
  let v742 : BitVec 32 := Scalar.muli v12 c512_i32_608
  let c1_i32_609 : BitVec 32 := 1#32
  let v743 : BitVec 32 := Scalar.subi c1_i32_609 v2
  let c256_i32_610 : BitVec 32 := 256#32
  let v744 : BitVec 32 := Scalar.muli v743 c256_i32_610
  let v745 : BitVec 32 := Scalar.addi v744 c0_i32_611
  let v746 : BitVec 32 := Scalar.addi v742 v745
  let v761 : Index := Scalar.indexCast v746
  let c0_617 : Index := 0#32
  ![v761.toNat, 0]
def k0_off7 (d0 : Dev nD) (c0_i32_635 : BitVec 32) : Fin 2 → Nat :=
  let c1_i32_343 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let v412 : BitVec 32 := Scalar.subi c1_i32_343 v12
  let c512_i32_344 : BitVec 32 := 512#32
  let v413 : BitVec 32 := Scalar.muli v412 c512_i32_344
  let c1_i32_633 : BitVec 32 := 1#32
  let v778 : BitVec 32 := Scalar.subi c1_i32_633 v2
  let c256_i32_634 : BitVec 32 := 256#32
  let v779 : BitVec 32 := Scalar.muli v778 c256_i32_634
  let v780 : BitVec 32 := Scalar.addi v413 v779
  let v781 : BitVec 32 := Scalar.addi v780 c0_i32_635
  let v796 : Index := Scalar.indexCast v781
  let c0_641 : Index := 0#32
  ![v796.toNat, 0]
def k0_off8 (d0 : Dev nD) (c0_i32_658 : BitVec 32) : Fin 2 → Nat :=
  let c1_i32_343 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v12 : BitVec 32 := Scalar.xori v2 v8
  let v412 : BitVec 32 := Scalar.subi c1_i32_343 v12
  let c512_i32_344 : BitVec 32 := 512#32
  let v413 : BitVec 32 := Scalar.muli v412 c512_i32_344
  let c256_i32_657 : BitVec 32 := 256#32
  let v813 : BitVec 32 := Scalar.muli v2 c256_i32_657
  let v814 : BitVec 32 := Scalar.addi v413 v813
  let v815 : BitVec 32 := Scalar.addi v814 c0_i32_658
  let v830 : Index := Scalar.indexCast v815
  let c0_664 : Index := 0#32
  ![v830.toNat, 0]
abbrev stage0_0 : Fin 1 → Memref sig .tc .vmem S1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x2048x1024 : Shape := ⟨3, ![2, 2048, 1024]⟩
abbrev S1024 : Shape := ⟨1, ![1024]⟩
abbrev S_ : Shape := ⟨0, ![]⟩
abbrev S2048x1024 : Shape := ⟨2, ![2048, 1024]⟩
abbrev S2048 : Shape := ⟨1, ![2048]⟩
abbrev S2048x1 : Shape := ⟨2, ![2048, 1]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S1024, .f32⟩
  | .hbm, ⟨2, _⟩ => ⟨S_, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x1024, .bf16⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Program.lean ====
/-
  The kernel's body, written once over its loops: the sixteen local copies, the barrier, the eight
  staged sends to the y neighbour, the eight sums with the eight sends to the x and z neighbours,
  the sixteen blocks of the result, and the sixteen waits for the sends to leave. The printed body
  is this program, by unfolding its loops.
-/
module

public import proofs.«01_k».proof.Proof.Gen.KernelIdeal.Skeleton
public import proofs.«01_k».proof.Proof.Gen.KernelIdeal.Points

@[expose] public section

noncomputable section

namespace Cert.KernelIdeal.Run

open Cert.KernelIdeal.Gen
open Idealize.ShloMosaic Idealize.ShloMosaic.TcCoe Idealize.SL.Sem

variable {F : FTy → Type} [FloatOps F]

/-- A program of the kernel's thread. -/
abbrev Pr (F : FTy → Type) (α : Type) := Prog (TpuEff nD τ sig (Elt F) Λ₀ .tc) α

/-- The steps `f 0`, …, `f (n - 1)`, one after the other. -/
def loop : (n : ℕ) → (Fin n → Pr F PUnit) → Pr F PUnit
  | 0, _ => pure ⟨⟩
  | n + 1, f => f 0 >>= fun _ => loop n fun k => f k.succ

/-! ## The slots of the buffers -/

/-- A slot lies inside an eight-slot buffer, -/
theorem inb8 (k : Fin 8) : ∀ a, (![k.val, 0, 0] : Fin 3 → ℕ) a + S1x64x1024.size a ≤ S8x64x1024.size a := by
  revert k; decide

/-- and inside a four-slot buffer. -/
theorem inb4 (k : Fin 4) : ∀ a, (![k.val, 0, 0] : Fin 3 → ℕ) a + S1x64x1024.size a ≤ S4x64x1024.size a := by
  revert k; decide

/-- The rectangle of slot `k` of an eight-slot buffer. -/
abbrev rect8 (k : Fin 8) : Rect S8x64x1024 := Rect.unit (s := S8x64x1024) ![k.val, 0, 0] S1x64x1024.size (inb8 k)

/-- The rectangle of slot `k` of a four-slot buffer. -/
abbrev rect4 (k : Fin 4) : Rect S4x64x1024 := Rect.unit (s := S4x64x1024) ![k.val, 0, 0] S1x64x1024.size (inb4 k)

/-- Slot `k` of an eight-slot buffer. -/
abbrev slot8 {e : EltTy} (m : Memref sig .tc .vmem S8x64x1024 e) (k : Fin 8) : Memref sig .tc .vmem S64x1024 e :=
  (m.slice (rect8 k) (fun _ => rfl)).squeeze S64x1024 squeezes_S1x64x1024_S64x1024

/-- Slot `k` of a four-slot buffer. -/
abbrev slot4 {e : EltTy} (m : Memref sig .tc .vmem S4x64x1024 e) (k : Fin 4) : Memref sig .tc .vmem S64x1024 e :=
  (m.slice (rect4 k) (fun _ => rfl)).squeeze S64x1024 squeezes_S1x64x1024_S64x1024

/-- The slots of an eight-slot buffer in bf16 begin and end at packed rows -/
theorem packed8 (k : Fin 8) : (rect8 k).PackedRows (EltTy.packing .bf16) := by
  match k with
  | 0 => exact packedbf16_S8x64x1024_S1x64x1024_0_0_0
  | 1 => exact packedbf16_S8x64x1024_S1x64x1024_1_0_0
  | 2 => exact packedbf16_S8x64x1024_S1x64x1024_2_0_0
  | 3 => exact packedbf16_S8x64x1024_S1x64x1024_3_0_0
  | 4 => exact packedbf16_S8x64x1024_S1x64x1024_4_0_0
  | 5 => exact packedbf16_S8x64x1024_S1x64x1024_5_0_0
  | 6 => exact packedbf16_S8x64x1024_S1x64x1024_6_0_0
  | 7 => exact packedbf16_S8x64x1024_S1x64x1024_7_0_0

/-- and at whole words; -/
theorem words8 (k : Fin 8) : (rect8 k).WholeWords (EltTy.packing .bf16) := by
  match k with
  | 0 => exact wordsbf16_S8x64x1024_S1x64x1024_0_0_0
  | 1 => exact wordsbf16_S8x64x1024_S1x64x1024_1_0_0
  | 2 => exact wordsbf16_S8x64x1024_S1x64x1024_2_0_0
  | 3 => exact wordsbf16_S8x64x1024_S1x64x1024_3_0_0
  | 4 => exact wordsbf16_S8x64x1024_S1x64x1024_4_0_0
  | 5 => exact wordsbf16_S8x64x1024_S1x64x1024_5_0_0
  | 6 => exact wordsbf16_S8x64x1024_S1x64x1024_6_0_0
  | 7 => exact wordsbf16_S8x64x1024_S1x64x1024_7_0_0

/-- so do those of a four-slot buffer, -/
theorem packed4 (k : Fin 4) : (rect4 k).PackedRows (EltTy.packing .bf16) := by
  match k with
  | 0 => exact packedbf16_S4x64x1024_S1x64x1024_0_0_0
  | 1 => exact packedbf16_S4x64x1024_S1x64x1024_1_0_0
  | 2 => exact packedbf16_S4x64x1024_S1x64x1024_2_0_0
  | 3 => exact packedbf16_S4x64x1024_S1x64x1024_3_0_0

/-- at whole words too. -/
theorem words4 (k : Fin 4) : (rect4 k).WholeWords (EltTy.packing .bf16) := by
  match k with
  | 0 => exact wordsbf16_S4x64x1024_S1x64x1024_0_0_0
  | 1 => exact wordsbf16_S4x64x1024_S1x64x1024_1_0_0
  | 2 => exact wordsbf16_S4x64x1024_S1x64x1024_2_0_0
  | 3 => exact wordsbf16_S4x64x1024_S1x64x1024_3_0_0

/-- The offset of block `k` of a device's own half of its row share. -/
def offL (c : Dev nD) (k : Fin 8) : Fin 3 → ℕ :=
  if k.val < 4 then k0_off1 c (BitVec.ofNat 32 (64 * k.val)) else k0_off3 c (BitVec.ofNat 32 (64 * (k.val - 4)))

/-- The offset of block `k` of the half a device sends to its y neighbour. -/
def offS (c : Dev nD) (k : Fin 8) : Fin 3 → ℕ :=
  if k.val < 4 then k0_off2 c (BitVec.ofNat 32 (64 * k.val)) else k0_off4 c (BitVec.ofNat 32 (64 * (k.val - 4)))

/-- A device's own blocks lie inside its argument, -/
theorem offL_inb (c : Dev nD) (k : Fin 8) : ∀ a, offL c k a + S1x64x1024.size a ≤ S1x2048x1024.size a := by
  unfold offL; split
  · exact k0_off1_inb c ⟨k.val, ‹_›⟩
  · exact k0_off3_inb c ⟨k.val - 4, by omega⟩

/-- and so do those it gives away. -/
theorem offS_inb (c : Dev nD) (k : Fin 8) : ∀ a, offS c k a + S1x64x1024.size a ≤ S1x2048x1024.size a := by
  unfold offS; split
  · exact k0_off2_inb c ⟨k.val, ‹_›⟩
  · exact k0_off4_inb c ⟨k.val - 4, by omega⟩

/-- Block `k` of a device's own half, in its argument. -/
abbrev srcL (c : Dev nD) (k : Fin 8) : Memref sig .tc .hbm S64x1024 .f32 :=
  ((Memref.whole main_arg0).slice (Rect.unit (s := S1x2048x1024) (offL c k) S1x64x1024.size (offL_inb c k)) (fun _ => rfl)).squeeze S64x1024 squeezes_S1x64x1024_S64x1024

/-- Block `k` of the half sent to the y neighbour, in the argument. -/
abbrev srcS (c : Dev nD) (k : Fin 8) : Memref sig .tc .hbm S64x1024 .f32 :=
  ((Memref.whole main_arg0).slice (Rect.unit (s := S1x2048x1024) (offS c k) S1x64x1024.size (offS_inb c k)) (fun _ => rfl)).squeeze S64x1024 squeezes_S1x64x1024_S64x1024

/-! ## The buffers and the semaphores -/

abbrev lbuf : Memref sig .tc .vmem S8x64x1024 .f32 := Memref.whole cc0_scratch0
abbrev sbuf : Memref sig .tc .vmem S8x64x1024 .f32 := Memref.whole cc0_scratch1
abbrev ysend : Memref sig .tc .vmem S8x64x1024 .bf16 := Memref.whole cc0_scratch2
abbrev yrecv : Memref sig .tc .vmem S8x64x1024 .bf16 := Memref.whole cc0_scratch3
abbrev gsend : Memref sig .tc .vmem S4x64x1024 .bf16 := Memref.whole cc0_scratch4
abbrev xrecv : Memref sig .tc .vmem S4x64x1024 .bf16 := Memref.whole cc0_scratch5
abbrev zrecv : Memref sig .tc .vmem S4x64x1024 .bf16 := Memref.whole cc0_scratch6
abbrev gvmem : Memref sig .tc .vmem S1x1024 .f32 := Memref.whole cc0_scratch7
abbrev gsrc : Memref sig .tc .hbm S1x1024 .f32 := Memref.whole main_v1
abbrev obuf : Memref sig .tc .vmem S1024x1024 .bf16 := Memref.whole cc0_stg0_0

abbrev cpl (k : Fin 8) : DmaSem sig := ⟨1 + k.val, by have := k.isLt; show 1 + k.val < 50; omega⟩
abbrev cps (k : Fin 8) : DmaSem sig := ⟨9 + k.val, by have := k.isLt; show 9 + k.val < 50; omega⟩
abbrev ysS (k : Fin 8) : DmaSem sig := ⟨17 + k.val, by have := k.isLt; show 17 + k.val < 50; omega⟩
abbrev ysR (k : Fin 8) : DmaSem sig := ⟨25 + k.val, by have := k.isLt; show 25 + k.val < 50; omega⟩
abbrev xsS (k : Fin 4) : DmaSem sig := ⟨33 + k.val, by have := k.isLt; show 33 + k.val < 50; omega⟩
abbrev xsR (k : Fin 4) : DmaSem sig := ⟨37 + k.val, by have := k.isLt; show 37 + k.val < 50; omega⟩
abbrev zsS (k : Fin 4) : DmaSem sig := ⟨41 + k.val, by have := k.isLt; show 41 + k.val < 50; omega⟩
abbrev zsR (k : Fin 4) : DmaSem sig := ⟨45 + k.val, by have := k.isLt; show 45 + k.val < 50; omega⟩
abbrev gsem : DmaSem sig := ⟨49, by decide⟩
abbrev barS : Sem sig := sig.barrier 0 rfl

/-- The device a block is sent to along y, x and z. -/
def ydev (c : Dev nD) : Fin 8 → Dev nD :=
  ![⟨k0_dev4 c, k0_dev4_lt c⟩, ⟨k0_dev5 c, k0_dev5_lt c⟩, ⟨k0_dev6 c, k0_dev6_lt c⟩, ⟨k0_dev7 c, k0_dev7_lt c⟩,
    ⟨k0_dev8 c, k0_dev8_lt c⟩, ⟨k0_dev9 c, k0_dev9_lt c⟩, ⟨k0_dev10 c, k0_dev10_lt c⟩, ⟨k0_dev11 c, k0_dev11_lt c⟩]
def xdev (c : Dev nD) : Fin 4 → Dev nD :=
  ![⟨k0_dev12 c, k0_dev12_lt c⟩, ⟨k0_dev14 c, k0_dev14_lt c⟩, ⟨k0_dev16 c, k0_dev16_lt c⟩, ⟨k0_dev18 c, k0_dev18_lt c⟩]
def zdev (c : Dev nD) : Fin 4 → Dev nD :=
  ![⟨k0_dev13 c, k0_dev13_lt c⟩, ⟨k0_dev15 c, k0_dev15_lt c⟩, ⟨k0_dev17 c, k0_dev17_lt c⟩, ⟨k0_dev19 c, k0_dev19_lt c⟩]

/-! ## What the body computes -/

/-- A block as the matrix a buffer slot holds. -/
abbrev flat {e : EltTy} (x : Vec F S1x64x1024 e) : Vec F S64x1024 e := shapeCast S64x1024 x shapeCasts_S1x64x1024_S64x1024
/-- A matrix as a slot's block. -/
abbrev lift3 {e : EltTy} (x : Vec F S64x1024 e) : Vec F S1x64x1024 e := shapeCast S1x64x1024 x shapeCasts_S64x1024_S1x64x1024

/-- What is sent of a block: its values rounded to bf16. -/
def rnd (x : FVec F S64x1024 .f32) : FVec F S64x1024 .bf16 := truncf .bf16 x bitsLt_bf16_f32
/-- A received block read in f32. -/
def wid (x : FVec F S64x1024 .bf16) : FVec F S64x1024 .f32 := extf .f32 x bitsLt_bf16_f32
/-- The sum of a device's own block and the block its y neighbour sent. -/
def summed (l : FVec F S64x1024 .f32) (r : FVec F S64x1024 .bf16) : FVec F S64x1024 .f32 := addf l (wid r)
/-- The inverse root mean square of each row of a block, spread over its columns. -/
def invRms (s : FVec F S64x1024 .f32) : FVec F S64x1024 .f32 :=
  broadcastTo S64x1024
    (rsqrt (addf
      (divf (shapeCast S64x1 (multiReduction .add [1] S64 (mulf s s) 0x00000000#32 reduces_S64x1024_S64 (.inl rfl) rfl) shapeCasts_S64_S64x1)
        (broadcast S64x1 (Scalar.ofBits .f32 0x44800000#32)))
      (broadcast S64x1 (Scalar.ofBits .f32 0x358637BD#32))))
    broadcasts_S64x1_S64x1024
/-- A block of the result: the block over its rows' root mean squares, times the weights, in bf16. -/
def normed (s : FVec F S64x1024 .f32) (g : FVec F S1x1024 .f32) : FVec F S64x1024 .bf16 :=
  truncf .bf16 (mulf (mulf s (invRms s)) (broadcastTo S64x1024 g broadcasts_S1x1024_S64x1024)) bitsLt_bf16_f32

/-! ## The steps -/

/-- Read slot `k` of an eight-slot buffer. -/
abbrev load8 {e : EltTy} (m : Memref sig .tc .vmem S8x64x1024 e) (k : Fin 8) : Pr F (Vec F S1x64x1024 e) :=
  Prog.lift (.load m (rect8 k).toLoadRect (View.loadsAt_vmem h_S1x64x1024))
/-- Read slot `k` of a four-slot buffer. -/
abbrev load4 {e : EltTy} (m : Memref sig .tc .vmem S4x64x1024 e) (k : Fin 4) : Pr F (Vec F S1x64x1024 e) :=
  Prog.lift (.load m (rect4 k).toLoadRect (View.loadsAt_vmem h_S1x64x1024))
/-- Read the weights. -/
abbrev loadG : Pr F (Vec F S1x1024 .f32) :=
  Prog.lift (.load gvmem (Rect.unit (s := S1x1024) ![0, 0] S1x1024.size inb_S1x1024_S1x1024_0_0).toLoadRect (View.loadsAt_vmem h_S1x1024))

/-- Write a block of the result at the rows `off` points at (the store reads them first). -/
def emit (off : Fin 2 → ℕ) (inb : ∀ a, off a + S64x1024.size a ≤ S1024x1024.size a)
    (packed : (Rect.unit (s := S1024x1024) off S64x1024.size inb).PackedRows (EltTy.packing .bf16))
    (s : FVec F S64x1024 .f32) : Pr F PUnit :=
  loadG >>= fun g =>
  Prog.lift (.load obuf (Rect.unit (s := S1024x1024) off S64x1024.size inb).toLoadRect (View.loadsAt_vmem h_S64x1024)) >>= fun _ =>
  Prog.lift (.store obuf (Rect.unit (s := S1024x1024) off S64x1024.size inb) (normed s g) Finset.univ
    (View.stores_vmem h_S64x1024 ((hstage0_0 0).storeExact_slice rfl _ packed) (fun _ => rfl)) (.inl rfl))

/-- Start the two local copies of block `k`. -/
def fetch (c : Dev nD) (k : Fin 8) : Pr F PUnit :=
  Prog.lift (.enqueueDma (srcL c k) (.here (slot8 lbuf k)) (.dma (cpl k)) ((View.wordExact_bits rfl).reshape _ _) ((View.wordExact_bits rfl).reshape _ _) ⟨Or.inl rfl, trivial⟩) >>= fun _ =>
  Prog.lift (.enqueueDma (srcS c k) (.here (slot8 sbuf k)) (.dma (cps k)) ((View.wordExact_bits rfl).reshape _ _) ((View.wordExact_bits rfl).reshape _ _) ⟨Or.inl rfl, trivial⟩)

/-- Take block `k` of the half to be sent as it arrives, and round it into its send slot. -/
def stage (c : Dev nD) (k : Fin 8) : Pr F PUnit :=
  Prog.lift (.waitDma2 (cps k) (srcS c k) (slot8 sbuf k) ((View.wordExact_bits rfl).reshape _ _) ((View.wordExact_bits rfl).reshape _ _)) >>= fun _ =>
  load8 sbuf k >>= fun v =>
  load8 ysend k >>= fun _ =>
  Prog.lift (.store ysend (rect8 k) (lift3 (rnd (flat v))) Finset.univ
    (View.stores_vmem h_S1x64x1024 ((Memref.isWhole_whole _).storeExact_slice rfl _ (packed8 k)) (fun _ => rfl)) (.inl rfl))

/-- Send slot `k` to the y neighbour. -/
def sendY (c : Dev nD) (k : Fin 8) : Pr F PUnit :=
  Prog.lift (.enqueueDma (slot8 ysend k) (.remote (Dev.tc (ydev c k)) (slot8 yrecv k) (.dma (ysS k))) (.dma (ysR k))
    (((Memref.isWhole_whole _).wordExact_slice rfl _ (words8 k)).reshape _ _) (((Memref.isWhole_whole _).wordExact_slice rfl _ (words8 k)).reshape _ _) ⟨⟨rfl, Or.inl rfl⟩, trivial⟩)

/-- Wait for block `k` of the y neighbour and for the device's own block `k`, and read both. -/
def pick (c : Dev nD) (k : Fin 8) (cont : FVec F S64x1024 .f32 → Pr F PUnit) : Pr F PUnit :=
  Prog.lift (.waitDma2 (ysR k) (slot8 ysend k) (slot8 yrecv k) (((Memref.isWhole_whole _).wordExact_slice rfl _ (words8 k)).reshape _ _) (((Memref.isWhole_whole _).wordExact_slice rfl _ (words8 k)).reshape _ _)) >>= fun _ =>
  Prog.lift (.waitDma2 (cpl k) (srcL c k) (slot8 lbuf k) ((View.wordExact_bits rfl).reshape _ _) ((View.wordExact_bits rfl).reshape _ _)) >>= fun _ =>
  load8 lbuf k >>= fun l =>
  load8 yrecv k >>= fun r =>
  cont (summed (flat l) (flat r))

/-- Send slot `j` of the gathered sums to the x and to the z neighbour. -/
def sendXZ (c : Dev nD) (j : Fin 4) : Pr F PUnit :=
  Prog.lift (.enqueueDma (slot4 gsend j) (.remote (Dev.tc (xdev c j)) (slot4 xrecv j) (.dma (xsS j))) (.dma (xsR j))
    (((Memref.isWhole_whole _).wordExact_slice rfl _ (words4 j)).reshape _ _) (((Memref.isWhole_whole _).wordExact_slice rfl _ (words4 j)).reshape _ _) ⟨⟨rfl, Or.inl rfl⟩, trivial⟩) >>= fun _ =>
  Prog.lift (.enqueueDma (slot4 gsend j) (.remote (Dev.tc (zdev c j)) (slot4 zrecv j) (.dma (zsS j))) (.dma (zsR j))
    (((Memref.isWhole_whole _).wordExact_slice rfl _ (words4 j)).reshape _ _) (((Memref.isWhole_whole _).wordExact_slice rfl _ (words4 j)).reshape _ _) ⟨⟨rfl, Or.inl rfl⟩, trivial⟩)

/-- Block `j` of the first half: sum it, send the sum on, write it. -/
def first (c : Dev nD) (j : Fin 4) : Pr F PUnit :=
  pick c (Fin.castLE (by decide) j) fun s =>
  load4 gsend j >>= fun _ =>
  Prog.lift (.store gsend (rect4 j) (lift3 (rnd s)) Finset.univ
    (View.stores_vmem h_S1x64x1024 ((Memref.isWhole_whole _).storeExact_slice rfl _ (packed4 j)) (fun _ => rfl)) (.inl rfl)) >>= fun _ =>
  sendXZ c j >>= fun _ =>
  emit (k0_off5 c (BitVec.ofNat 32 (64 * j.val))) (k0_off5_inb c j) (k0_off5_packedbf16 c j) s

/-- Wait for block `j` of a neighbour along x (or z), and read it. -/
def take (m : Memref sig .tc .vmem S4x64x1024 .bf16) (hm : m.IsWhole) (sem : DmaSem sig) (j : Fin 4) (cont : FVec F S64x1024 .f32 → Pr F PUnit) : Pr F PUnit :=
  Prog.lift (.waitDma2 sem (slot4 gsend j) (slot4 m j) (((Memref.isWhole_whole _).wordExact_slice rfl _ (words4 j)).reshape _ _) ((hm.wordExact_slice rfl _ (words4 j)).reshape _ _)) >>= fun _ =>
  load4 m j >>= fun r =>
  cont (wid (flat r))

/-- Block `4 + j` of the second half: sum it and write it; then block `j` of the x and of the z
    neighbour, as each arrives. -/
def second (c : Dev nD) (j : Fin 4) : Pr F PUnit :=
  (pick c (Fin.natAdd 4 j) fun s =>
    emit (k0_off6 c (BitVec.ofNat 32 (64 * j.val))) (k0_off6_inb c j) (k0_off6_packedbf16 c j) s) >>= fun _ =>
  (take xrecv (Memref.isWhole_whole _) (xsR j) j fun s =>
    emit (k0_off7 c (BitVec.ofNat 32 (64 * j.val))) (k0_off7_inb c j) (k0_off7_packedbf16 c j) s) >>= fun _ =>
  take zrecv (Memref.isWhole_whole _) (zsR j) j fun s =>
    emit (k0_off8 c (BitVec.ofNat 32 (64 * j.val))) (k0_off8_inb c j) (k0_off8_packedbf16 c j) s

/-- Wait for the send of a slot to leave. -/
def leave8 (k : Fin 8) : Pr F PUnit :=
  Prog.lift (.waitDma2 (ysS k) (slot8 yrecv k) (slot8 ysend k) (((Memref.isWhole_whole _).wordExact_slice rfl _ (words8 k)).reshape _ _) (((Memref.isWhole_whole _).wordExact_slice rfl _ (words8 k)).reshape _ _))
def leave4 (m : Memref sig .tc .vmem S4x64x1024 .bf16) (hm : m.IsWhole) (sem : Fin 4 → DmaSem sig) (j : Fin 4) : Pr F PUnit :=
  Prog.lift (.waitDma2 (sem j) (slot4 m j) (slot4 gsend j) ((hm.wordExact_slice rfl _ (words4 j)).reshape _ _) (((Memref.isWhole_whole _).wordExact_slice rfl _ (words4 j)).reshape _ _))

/-- The body of a device. -/
def prog (c : Dev nD) : Pr F PUnit :=
  loop 8 (fetch c) >>= fun _ =>
  Prog.lift (.enqueueDma gsrc (.here gvmem) (.dma gsem) (Memref.isWhole_whole _).wordExact (Memref.isWhole_whole _).wordExact ⟨Or.inl rfl, trivial⟩) >>= fun _ =>
  semSignalWord (⟨k0_dev1 c, k0_dev1_lt c⟩ : Dev nD) barS 1#32 >>= fun _ =>
  semSignalWord (⟨k0_dev2 c, k0_dev2_lt c⟩ : Dev nD) barS 1#32 >>= fun _ =>
  semSignalWord (⟨k0_dev3 c, k0_dev3_lt c⟩ : Dev nD) barS 1#32 >>= fun _ =>
  stage c 0 >>= fun _ =>
  semWaitWord barS 3#32 >>= fun _ =>
  sendY c 0 >>= fun _ =>
  loop 7 (fun k => stage c k.succ >>= fun _ => sendY c k.succ) >>= fun _ =>
  Prog.lift (.waitDma2 gsem gsrc gvmem (Memref.isWhole_whole _).wordExact (Memref.isWhole_whole _).wordExact) >>= fun _ =>
  loop 4 (first c) >>= fun _ =>
  loop 4 (second c) >>= fun _ =>
  loop 8 leave8 >>= fun _ =>
  loop 4 (leave4 xrecv (Memref.isWhole_whole _) xsS) >>= fun _ =>
  loop 4 (leave4 zrecv (Memref.isWhole_whole _) zsS)

set_option maxRecDepth 65536 in
set_option maxHeartbeats 0 in
/-- The printed body is `prog` at the device it runs on: its loops unfolded. -/
theorem body_eq (t : Fin cfg0.N) : bodyAt0 (F := F) t = (Prog.lift .deviceId >>= fun c => prog c) := by
  rfl

end Cert.KernelIdeal.Run
-- ==== Proof.Cells.lean ====
/-
  The protocol between the devices. Each device has one barrier semaphore and forty-nine DMA
  semaphores; each is raised once per duty: the barrier by the x, y and z neighbours (each hands over
  the buffer slots its own sends will be written to), a DMA semaphore by the one copy that names it
  (which hands over the slot it filled, or gives back the slot it read).
-/
module

public import proofs.«01_k».proof.Proof.Program
public import proofs.«01_k».proof.Proof.Gen.KernelIdeal.Launch
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Memref
public import Idealize.ShloMosaic.Lib.Pipeline.RegionTalk

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The neighbours -/

/-- The neighbour along x, y and z: the device whose coordinate there differs. -/
def xn (c : Dev nD) : Dev nD := (![4, 5, 6, 7, 0, 1, 2, 3] : Fin 8 → Fin 8) c
def yn (c : Dev nD) : Dev nD := (![2, 3, 0, 1, 6, 7, 4, 5] : Fin 8 → Fin 8) c
def zn (c : Dev nD) : Dev nD := (![1, 0, 3, 2, 5, 4, 7, 6] : Fin 8 → Fin 8) c

/-- A device is its x neighbour's x neighbour, -/
@[simp] theorem xn_xn (c : Dev nD) : xn (xn c) = c := by revert c; decide
/-- its y neighbour's y neighbour, -/
@[simp] theorem yn_yn (c : Dev nD) : yn (yn c) = c := by revert c; decide
/-- and its z neighbour's z neighbour. -/
@[simp] theorem zn_zn (c : Dev nD) : zn (zn c) = c := by revert c; decide

def xEquiv : Dev nD ≃ Dev nD := ⟨xn, xn, xn_xn, xn_xn⟩
def yEquiv : Dev nD ≃ Dev nD := ⟨yn, yn, yn_yn, yn_yn⟩
def zEquiv : Dev nD ≃ Dev nD := ⟨zn, zn, zn_zn, zn_zn⟩

/-- The device each send along x names is the x neighbour, -/
theorem xdev_eq (c : Dev nD) (j : Fin 4) : xdev c j = xn c := by revert c j; decide +kernel
/-- along y the y neighbour, -/
theorem ydev_eq (c : Dev nD) (k : Fin 8) : ydev c k = yn c := by revert c k; decide +kernel
/-- along z the z neighbour. -/
theorem zdev_eq (c : Dev nD) (j : Fin 4) : zdev c j = zn c := by revert c j; decide +kernel
/-- The first signal goes to the x neighbour, -/
theorem dev1_eq (c : Dev nD) : (⟨k0_dev1 c, k0_dev1_lt c⟩ : Dev nD) = xn c := by revert c; decide +kernel
/-- the second to the y neighbour, -/
theorem dev2_eq (c : Dev nD) : (⟨k0_dev2 c, k0_dev2_lt c⟩ : Dev nD) = yn c := by revert c; decide +kernel
/-- the third to the z neighbour. -/
theorem dev3_eq (c : Dev nD) : (⟨k0_dev3 c, k0_dev3_lt c⟩ : Dev nD) = zn c := by revert c; decide +kernel

/-! ## What the buffers hold -/

/-- What every device's argument and weights hold as the kernel starts. -/
abbrev Args (F : FTy → Type) : Type := (Dev nD → Vec F S1x2048x1024 .f32) × (Dev nD → Vec F S1x1024 .f32)

variable (a : Args F)

/-- Block `k` of a device's own half. -/
def lblk (c : Dev nD) (k : Fin 8) : FVec F S64x1024 .f32 := (srcL c k).view.read (Elt F) (a.1 c)
/-- Block `k` of the half a device gives to its y neighbour. -/
def sblk (c : Dev nD) (k : Fin 8) : FVec F S64x1024 .f32 := (srcS c k).view.read (Elt F) (a.1 c)
/-- What is sent of it. -/
def yval (c : Dev nD) (k : Fin 8) : FVec F S64x1024 .bf16 := rnd (sblk a c k)
/-- The sum of a device's block `k` and its y neighbour's. -/
def sval (c : Dev nD) (k : Fin 8) : FVec F S64x1024 .f32 := summed (lblk a c k) (yval a (yn c) k)
/-- What is sent on of the sums of the first four blocks. -/
def gval (c : Dev nD) (j : Fin 4) : FVec F S64x1024 .bf16 := rnd (sval a c (Fin.castLE (by decide) j))

/-! ## The cells -/

/-- What a semaphore is for. -/
inductive Kind where
  | idle
  | cpl (k : Fin 8) | cps (k : Fin 8) | ysS (k : Fin 8) | ysR (k : Fin 8)
  | xsS (j : Fin 4) | xsR (j : Fin 4) | zsS (j : Fin 4) | zsR (j : Fin 4)
  | gam
  deriving DecidableEq

/-- The use of each DMA semaphore. -/
def kindOf (i : DmaSem sig) : Kind :=
  if i.val < 1 then .idle
  else if h : i.val < 9 then .cpl ⟨i.val - 1, by omega⟩
  else if h : i.val < 17 then .cps ⟨i.val - 9, by omega⟩
  else if h : i.val < 25 then .ysS ⟨i.val - 17, by omega⟩
  else if h : i.val < 33 then .ysR ⟨i.val - 25, by omega⟩
  else if h : i.val < 37 then .xsS ⟨i.val - 33, by omega⟩
  else if h : i.val < 41 then .xsR ⟨i.val - 37, by omega⟩
  else if h : i.val < 45 then .zsS ⟨i.val - 41, by omega⟩
  else if h : i.val < 49 then .zsR ⟨i.val - 45, by omega⟩
  else .gam

/-- The uses of the semaphores: of the copies of a device's own blocks, -/
theorem kind_cpl (k : Fin 8) : kindOf (cpl k) = .cpl k := by revert k; decide
/-- of the copies of the blocks it gives away, -/
theorem kind_cps (k : Fin 8) : kindOf (cps k) = .cps k := by revert k; decide
/-- of the sends along y, as they leave -/
theorem kind_ysS (k : Fin 8) : kindOf (ysS k) = .ysS k := by revert k; decide
/-- and as they land, -/
theorem kind_ysR (k : Fin 8) : kindOf (ysR k) = .ysR k := by revert k; decide
/-- of the sends along x, as they leave -/
theorem kind_xsS (j : Fin 4) : kindOf (xsS j) = .xsS j := by revert j; decide
/-- and as they land, -/
theorem kind_xsR (j : Fin 4) : kindOf (xsR j) = .xsR j := by revert j; decide
/-- of the sends along z, as they leave -/
theorem kind_zsS (j : Fin 4) : kindOf (zsS j) = .zsS j := by revert j; decide
/-- and as they land, -/
theorem kind_zsR (j : Fin 4) : kindOf (zsR j) = .zsR j := by revert j; decide
/-- and of the copy of the weights. -/
theorem kind_gam : kindOf gsem = .gam := by decide

abbrev barCell (c : Dev nD) : GSem nD τ sig := ((c : Thread nD τ), .reg barS)
abbrev dCell (c : Dev nD) (i : DmaSem sig) : GSem nD τ sig := ((c : Thread nD τ), .dma i)

/-- What one copy raises its semaphore by: a slot in f32, a slot in bf16, the weights. -/
def NF : ℕ := (slot8 lbuf 0).view.dmaCredit
def NB : ℕ := (slot8 yrecv 0).view.dmaCredit
def NG : ℕ := (gvmem).view.dmaCredit

/-- A copy of a slot in f32 raises its semaphore, -/
theorem NF_pos : 0 < NF := View.dmaCredit_pos _ (by decide)
/-- so does one of a slot in bf16, -/
theorem NB_pos : 0 < NB := View.dmaCredit_pos _ (by decide)
/-- and so does that of the weights. -/
theorem NG_pos : 0 < NG := View.dmaCredit_pos _ (by decide)

def amt : Kind → ℕ
  | .idle => 1
  | .cpl _ => NF | .cps _ => NF
  | .ysS _ => NB | .ysR _ => NB | .xsS _ => NB | .xsR _ => NB | .zsS _ => NB | .zsR _ => NB
  | .gam => NG

/-- Every copy raises its semaphore by something. -/
theorem amt_pos (κ : Kind) : 0 < amt κ := by
  cases κ <;> first | exact Nat.one_pos | exact NF_pos | exact NB_pos | exact NG_pos

/-! ## The resource algebra -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- A buffer slot held whole, at values not said. -/
abbrev anyOwn {sp : Space} {s : Shape} {e : EltTy} (c : Dev nD) (m : Memref sig .tc sp s e) : sProp 𝕄 :=
  iprop(∃ Y : s.Idx → Elt F e, owns (c : Thread nD τ) m fullShare Y)

/-- What device `c`'s barrier brings it: from the x neighbour that device's four slots for blocks
    along x; from the y neighbour its eight slots; from the z neighbour its four. -/
def barPay (c : Dev nD) : Fin 3 → sProp 𝕄
  | 0 => iprop(bigSep Finset.univ fun j : Fin 4 => iprop(anyOwn (xn c) (slot4 xrecv j) ∗ reached ER (dCell (xn c) (xsR j)) 0))
  | 1 => iprop(bigSep Finset.univ fun k : Fin 8 => iprop(anyOwn (yn c) (slot8 yrecv k) ∗ reached ER (dCell (yn c) (ysR k)) 0))
  | 2 => iprop(bigSep Finset.univ fun j : Fin 4 => iprop(anyOwn (zn c) (slot4 zrecv j) ∗ reached ER (dCell (zn c) (zsR j)) 0))

/-- What the copy on a semaphore of device `c` brings it. -/
def pay (c : Dev nD) : Kind → sProp 𝕄
  | .idle => iprop(emp)
  | .cpl k => owns (c : Thread nD τ) (slot8 lbuf k) fullShare (lblk a c k)
  | .cps k => owns (c : Thread nD τ) (slot8 sbuf k) fullShare (sblk a c k)
  | .ysS k => owns (c : Thread nD τ) (slot8 ysend k) fullShare (yval a c k)
  | .ysR k => owns (c : Thread nD τ) (slot8 yrecv k) fullShare (yval a (yn c) k)
  | .xsS j => owns (c : Thread nD τ) (slot4 gsend j) fullShare.left (gval a c j)
  | .xsR j => owns (c : Thread nD τ) (slot4 xrecv j) fullShare (gval a (xn c) j)
  | .zsS j => owns (c : Thread nD τ) (slot4 gsend j) fullShare.right (gval a c j)
  | .zsR j => owns (c : Thread nD τ) (slot4 zrecv j) fullShare (gval a (zn c) j)
  | .gam => owns (c : Thread nD τ) gvmem fullShare (a.2 c)

/-- The semaphores of the protocol. -/
def Live : SemLoc sig → Prop
  | .reg s => s = barS
  | .dma i => kindOf i ≠ .idle

instance : DecidablePred Live := fun s => by
  cases s <;> unfold Live <;> infer_instance

def dutiesOf : SemLoc sig → Finset (Fin 3)
  | .reg _ => Finset.univ
  | .dma _ => {0}

def amountOf : SemLoc sig → ℕ
  | .reg _ => 1
  | .dma i => amt (kindOf i)

def payOf (c : Dev nD) : SemLoc sig → Fin 3 → sProp 𝕄
  | .reg _, d => barPay c d
  | .dma i, _ => pay a c (kindOf i)

/-- The schedule: one round per cell. -/
def Rd : Rounds.Schedule (GSem nD τ sig) (Fin 3) 𝕄 where
  duties g r := if r = 0 ∧ g.1.2 = .tc ∧ Live g.2 then dutiesOf g.2 else ∅
  amount g _ _ := amountOf g.2
  payload g _ d := payOf a g.1.1 g.2 d
  amount_pos g _ _ _ := by
    rcases g with ⟨t, s⟩
    cases s with
    | reg s => exact Nat.one_pos
    | dma i => exact amt_pos _

instance barPay_storable (c : Dev nD) (d : Fin 3) : BI.Storable (upEmb : UEmb _ 𝕄) (barPay (F := F) c d) := by
  match d with
  | 0 => unfold barPay; infer_instance
  | 1 => unfold barPay; infer_instance
  | 2 => unfold barPay; infer_instance

instance pay_storable (c : Dev nD) (κ : Kind) : BI.Storable (upEmb : UEmb _ 𝕄) (pay a c κ) := by
  cases κ <;> unfold pay <;> infer_instance

instance Rd_storable (g : GSem nD τ sig) (r : ℕ) (d : Fin 3) : BI.Storable (upEmb : UEmb _ 𝕄) ((Rd a).payload g r d) := by
  rcases g with ⟨t, s⟩
  cases s with
  | reg s => exact barPay_storable t.1 d
  | dma i => exact pay_storable a t.1 (kindOf i)

/-- A barrier is raised by three neighbours, -/
theorem duties_bar (c : Dev nD) : (Rd a).duties (barCell c) 0 = (Finset.univ : Finset (Fin 3)) := by
  show (if (0 = 0 ∧ (barCell c).1.2 = .tc ∧ Live (barCell c).2) then dutiesOf (barCell c).2 else ∅) = _
  exact if_pos ⟨rfl, rfl, rfl⟩
/-- a copy's semaphore by one copy, -/
theorem duties_dma (c : Dev nD) {i : DmaSem sig} (h : kindOf i ≠ .idle) : (Rd a).duties (dCell c i) 0 = {0} := if_pos ⟨rfl, rfl, h⟩
/-- and none a second time. -/
theorem duties_later (g : GSem nD τ sig) : ∀ r, 1 ≤ r → (Rd a).duties g r = ∅ :=
  fun r hr => if_neg fun h => by omega

/-- So a barrier reaches three, -/
theorem expect_bar (c : Dev nD) : (Rd a).expect (barCell c) 0 = 3 := by
  unfold Schedule.expect Schedule.amountOf
  rw [duties_bar]
  rfl
/-- and a copy's semaphore what its copy is worth. -/
theorem expect_dma (c : Dev nD) {i : DmaSem sig} (h : kindOf i ≠ .idle) : (Rd a).expect (dCell c i) 0 = amt (kindOf i) := by
  unfold Schedule.expect Schedule.amountOf
  rw [duties_dma a c h, Finset.sum_singleton]
  rfl

/-- What a wait on the barrier gives: the slots of the three neighbours. -/
theorem rest_bar (c : Dev nD) : bigSep ((Rd a).duties (barCell c) 0 \ ∅) (fun d => (Rd a).payload (barCell c) 0 d)
    = iprop(barPay (F := F) c 0 ∗ barPay c 1 ∗ barPay c 2) := by
  rw [Finset.sdiff_empty, duties_bar]
  rw [show (Finset.univ : Finset (Fin 3)) = insert 0 (insert 1 {2}) from by decide, BI.bigSep_insert (by decide), BI.bigSep_insert (by decide), bigSep_singleton]
  rfl
/-- What a wait on a copy's semaphore gives: what its copy hands over. -/
theorem rest_dma (c : Dev nD) {i : DmaSem sig} (h : kindOf i ≠ .idle) :
    bigSep ((Rd a).duties (dCell c i) 0 \ ∅) (fun d => (Rd a).payload (dCell c i) 0 d) = pay a c (kindOf i) := by
  rw [Finset.sdiff_empty, duties_dma a c h, bigSep_singleton]
  rfl

/-! ## Levels -/

def lvK : Kind → ℕ
  | .ysR _ => 2
  | .xsR _ => 3
  | .zsR _ => 3
  | _ => 0

/-- A device waits on a cell only while all it owes is at higher cells: local copies and leaving sends
    lowest, then the barrier, then blocks along y, then blocks along x and z. -/
def lv (g : GSem nD τ sig) (_ : Unit) : ℕ :=
  match g.2 with
  | .reg _ => 1
  | .dma i => lvK (kindOf i)

def L (g : GSem nD τ sig) : Finset Unit := if g.1.2 = .tc then {()} else ∅

/-- Only the devices' main threads have semaphores here, -/
theorem L_of_ne (g : GSem nD τ sig) (h : g.1.2 ≠ .tc) : L g = ∅ := if_neg h
/-- and each of these has one level. -/
theorem L_tc (c : Dev nD) (sm : SemLoc sig) : L ((c : Thread nD τ), sm) = {()} := if_pos rfl

/-- All that is owed is at cells above level `n`. -/
def Above (n : ℕ) (O : CellTallies nD τ sig Unit) : Prop := ∀ g u, 0 < O g u → u ∈ L g ∧ n < lv g u

/-- Nothing owed is above any level; -/
theorem Above.zero (n : ℕ) : Above n 0 := fun _ _ h => absurd h (Nat.lt_irrefl 0)
/-- two debts above a level are above it together, -/
theorem Above.add {n : ℕ} {O O' : CellTallies nD τ sig Unit} (h : Above n O) (h' : Above n O') : Above n (O + O') := fun g u hg => by
  rw [Pi.add_apply, Finsupp.add_apply] at hg
  rcases Nat.add_pos_iff_pos_or_pos.mp hg with hg | hg
  · exact h g u hg
  · exact h' g u hg
/-- so are any number of them, -/
theorem Above.sum {n : ℕ} {I : Type} (s : Finset I) (O : I → CellTallies nD τ sig Unit) (h : ∀ i, Above n (O i)) : Above n (∑ i ∈ s, O i) := by
  classical
  induction s using Finset.induction_on with
  | empty => rw [Finset.sum_empty]; exact Above.zero n
  | insert i s hi ih => rw [Finset.sum_insert hi]; exact (h i).add ih
/-- and one debt is, if its semaphore is. -/
theorem Above.single {n : ℕ} (c : Dev nD) (sm : SemLoc sig) (N : ℕ) (h : n < lv ((c : Thread nD τ), sm) ()) :
    Above n (tallyAt ((c : Thread nD τ), sm) () N) := fun g u hg => by
  rw [tallyAt_apply] at hg
  by_cases hh : g = ((c : Thread nD τ), sm) ∧ u = ()
  · rw [hh.1]; exact ⟨by rw [L_tc]; exact Finset.mem_singleton_self _, h⟩
  · rw [if_neg hh] at hg; exact absurd hg (Nat.lt_irrefl 0)
/-- What is above a level is above a lower one. -/
theorem Above.mono {n n' : ℕ} (h : n' ≤ n) {O : CellTallies nD τ sig Unit} (hO : Above n O) : Above n' O :=
  fun g u hg => ⟨(hO g u hg).1, lt_of_le_of_lt h (hO g u hg).2⟩

/-- A device may wait on a semaphore below all it owes. -/
theorem mayWait (c : Dev nD) (sm : SemLoc sig) {O : CellTallies nD τ sig Unit} (hO : Above (lv ((c : Thread nD τ), sm) ()) O) :
    (levAts L lv : sProp 𝕄) ⊢ MayWait (c : Thread nD τ) sm () O :=
  MayOwe.of_cut (L := L) (lev := lv) (lv ((c : Thread nD τ), sm) ())
    (fun p hp => by rw [Finset.mem_singleton.mp hp, L_tc]; exact Finset.mem_singleton_self _)
    (fun g u hg => (hO g u hg).1)
    (fun p hp => by rw [Finset.mem_singleton.mp hp])
    (fun g u hg => (hO g u hg).2)

end Cert.KernelIdeal.Run
-- ==== Proof.Steps.lean ====
/-
  What one step of the kernel does to the protocol: a loop, a wait on a DMA semaphore, a local copy, a
  send to a neighbour, a signal of a neighbour's barrier, the wait on the own barrier, and the reading
  and writing of a buffer slot.
-/
module

public import proofs.«01_k».proof.Proof.Cells
public import Idealize.ShloMosaic.Lib.Pipeline.Value

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

abbrev 𝒱₀ : Variants := Variants.none

/-- `p`, run on device `c`, ends in `Q`. -/
abbrev Wp {α : Type} (c : Dev nD) (p : Pr F α) (Q : α → sProp 𝕄) : sProp 𝕄 :=
  wp frame (wpE (defs₀ (F := F)) 𝒱₀ (c : Thread nD τ) none) Set.univ p Q

/-- A step, and what follows from its outcome. -/
theorem tail {α : Type} {c : Dev nD} {p : Pr F α} {P : sProp 𝕄} {Q Φ : α → sProp 𝕄} (h : P ⊢ Wp c p Q) :
    P ⊢ iprop((∀ x, Q x -∗ Φ x) -∗ Wp c p Φ) := h.trans (wp_wand _ _ _)

/-- A step, and the program after it. -/
theorem next {α β : Type} {c : Dev nD} {p : Pr F α} {k : α → Pr F β} {P : sProp 𝕄} {Q : α → sProp 𝕄} {Φ : β → sProp 𝕄}
    (h : P ⊢ Wp c p Q) : P ⊢ iprop((∀ x, Q x -∗ Wp c (k x) Φ) -∗ Wp c (p >>= k) Φ) := by
  unfold Wp
  rw [wp_bind]
  exact tail h

/-- A `bigSep` over `Fin (n + 1)`: the first, and the others. -/
theorem bigSep_first (n : ℕ) (Φ : Fin (n + 1) → sProp 𝕄) :
    bigSep Finset.univ Φ = iprop(Φ 0 ∗ bigSep Finset.univ fun i : Fin n => Φ i.succ) := by
  rw [Fin.univ_succ, Finset.cons_eq_insert, BI.bigSep_insert (by simp), BI.bigSep_map]; rfl

/-- A loop whose step `i` turns `R i` and `A i` into `R (i + 1)` and `B i`. -/
theorem loop_rule {c : Dev nD} (n : ℕ) (f : Fin n → Pr F PUnit) (A B : Fin n → sProp 𝕄) (R : ℕ → sProp 𝕄)
    (h : ∀ i : Fin n, iprop(R i.val ∗ A i) ⊢ Wp c (f i) fun _ => iprop(R (i.val + 1) ∗ B i)) :
    iprop(R 0 ∗ bigSep Finset.univ A) ⊢ Wp c (loop n f) fun _ => iprop(R n ∗ bigSep Finset.univ B) := by
  induction n generalizing R with
  | zero =>
    rw [show (Finset.univ : Finset (Fin 0)) = ∅ from rfl, bigSep_empty, bigSep_empty]
    exact fupd_intro
  | succ n ih =>
    rw [bigSep_first, bigSep_first]
    have h' := ih (fun i => f i.succ) (fun i => A i.succ) (fun i => B i.succ) (fun i => R (i + 1)) (fun i => h i.succ)
    simp only [Nat.zero_add] at h'
    have h0 : iprop(R 0 ∗ A 0) ⊢ Wp c (f 0) fun _ => iprop(R 1 ∗ B 0) := h 0
    unfold loop
    iintro ⟨HR, HA, HT⟩
    iapply (next h0) $$ [HR HA]
    · isplitl [HR]; · iexact HR
      iexact HA
    iintro %_ ⟨HR, HB⟩
    iapply (tail h') $$ [HR HT]
    · isplitl [HR]; · iexact HR
      iexact HT
    iintro %_ ⟨HR, HT⟩
    isplitl [HR]; · iexact HR
    isplitl [HB]; · iexact HB
    iexact HT

/-! ## The invariants of all the cells -/

/-- The DMA semaphores of the protocol, numbered. -/
def live (i : Fin 49) : DmaSem sig := ⟨i.val + 1, by have := i.isLt; show i.val + 1 < 50; omega⟩

/-- The numbered semaphores are in use, -/
theorem live_ne (i : Fin 49) : kindOf (live i) ≠ .idle := by revert i; decide

/-- and every semaphore in use is numbered. -/
theorem exists_live {i : DmaSem sig} (h : kindOf i ≠ .idle) : ∃ l, live l = i := by
  revert i; decide

/-- Every cell's invariant, under the names `K`, and the levels. -/
def Ctx (K : GSem nD τ sig → ℕ) : sProp 𝕄 :=
  iprop((bigSep Finset.univ fun c : Dev nD => cellInv ER (Rd a) (K (barCell c)) (barCell c))
    ∗ (bigSep Finset.univ fun p : Dev nD × Fin 49 => cellInv ER (Rd a) (K (dCell p.1 (live p.2))) (dCell p.1 (live p.2)))
    ∗ levAts L lv)

instance Ctx_persistent (K : GSem nD τ sig → ℕ) : Persistent (Ctx a K) := by unfold Ctx; infer_instance

variable (K : GSem nD τ sig → ℕ)

/-- Of all cells' invariants, a barrier's, -/
theorem Ctx_bar (c : Dev nD) : Ctx a K ⊢ cellInv ER (Rd a) (K (barCell c)) (barCell c) := by
  have h : iprop(bigSep Finset.univ fun c : Dev nD => cellInv ER (Rd a) (K (barCell c)) (barCell c)) ⊢ cellInv ER (Rd a) (K (barCell c)) (barCell c) :=
    bigSep_elim (Finset.mem_univ c)
  unfold Ctx
  iintro ⟨H, -, -⟩
  iapply h; iexact H

/-- a copy's, -/
theorem Ctx_dma (c : Dev nD) {i : DmaSem sig} (h : kindOf i ≠ .idle) : Ctx a K ⊢ cellInv ER (Rd a) (K (dCell c i)) (dCell c i) := by
  obtain ⟨l, rfl⟩ := exists_live h
  have h : iprop(bigSep Finset.univ fun p : Dev nD × Fin 49 => cellInv ER (Rd a) (K (dCell p.1 (live p.2))) (dCell p.1 (live p.2)))
      ⊢ cellInv ER (Rd a) (K (dCell c (live l))) (dCell c (live l)) := bigSep_elim (Finset.mem_univ (c, l))
  unfold Ctx
  iintro ⟨-, H, -⟩
  iapply h; iexact H

/-- and the levels. -/
theorem Ctx_lev : Ctx a K ⊢ levAts L lv := by
  unfold Ctx
  iintro ⟨-, -, H⟩; iexact H

/-- What a device owes, whatever it has waited for. -/
def owesSome (c : Dev nD) (O : CellTallies nD τ sig Unit) : sProp 𝕄 := iprop(∃ W, owes (c : Thread nD τ) O W)

/-- The right to wait on a DMA semaphore for the one copy it is for. -/
abbrev credOf (c : Dev nD) (i : DmaSem sig) : sProp 𝕄 := cred (tallyAt (dCell c i) () (amt (kindOf i)))
abbrev atStart (c : Dev nD) (i : DmaSem sig) : sProp 𝕄 := atPos ER (dCell c i) 0 ∅ 0
abbrev atEnd (c : Dev nD) (i : DmaSem sig) : sProp 𝕄 := atPos ER (dCell c i) 1 ∅ 0
/-- The right to start the one copy a DMA semaphore is for. -/
abbrev tokOf (c : Dev nD) (i : DmaSem sig) : sProp 𝕄 := dutyTok ER (dCell c i) 0 0

/-! ## Waits, copies, sends, signals -/

section moves

variable {sp sp' : Space} {s : Shape} {e : EltTy}

/-- A wait for a copy, which gives what the copy hands over. -/
theorem step_wait (c : Dev nD) {i : DmaSem sig} {src : Memref sig .tc sp s e} {dst : Memref sig .tc sp' s e}
    {h1 : src.view.WordExact} {h2 : dst.view.WordExact} (O : CellTallies nD τ sig Unit)
    (hi : kindOf i ≠ .idle) (hN : dst.view.dmaCredit = amt (kindOf i)) (hO : Above (lvK (kindOf i)) O) :
    iprop(Ctx a K ∗ credOf c i ∗ owesSome c O ∗ atStart c i)
      ⊢ Wp c (Prog.lift (.waitDma2 i src dst h1 h2)) fun _ => iprop(owesSome c O ∗ atEnd c i ∗ pay a c (kindOf i)) := by
  unfold owesSome
  iintro ⟨#HC, Hc, ⟨%W, HO⟩, Hat⟩
  ihave #HI := (Ctx_dma a K c hi) $$ HC
  ihave #HL := (Ctx_lev a K) $$ HC
  iapply (Rounds.wp_wait_rest_token 𝒱₀ ER (Rd a) (c : Thread nD τ) none (κ := K (dCell c i))
      (wpE_waitDma2_eq 𝒱₀ (c : Thread nD τ) none Set.univ) (Set.mem_univ _) () (O := O) (W := W) (R := 0) (m := 0) (T := ∅)
      ((Nat.zero_add _).trans (hN.trans (expect_dma a c hi).symm))) $$ [Hc HO Hat]
  · isplitr; · iexact HI
    isplitl [Hc]; · rw [hN]; iexact Hc
    isplitl [HO]; · iexact HO
    isplitr; · iapply (mayWait c (.dma i) hO); iexact HL
    iexact Hat
  iintro ⟨HO, Hat, -, Hpay⟩
  ihave Hpay := (Entails.of_eq (rest_dma a c hi)) $$ Hpay
  rw [wp_ret]
  imodintro
  isplitl [HO]; · iexists _; iexact HO
  isplitl [Hat]; · iexact Hat
  iexact Hpay

/-- What lies in a buffer after a write of all of it. -/
theorem owns_written (c : Dev nD) (dst : Memref sig .tc sp s e) (q : PosShare TreeShare) (fd : dst.view.ty.Contents (Elt F)) (X : s.Idx → Elt F e) :
    (dst.view.loc (c : Thread nD τ) ↦[dst.view.set]{q} dst.view.write (Elt F) fd X Finset.univ : sProp 𝕄) ⊢ owns (c : Thread nD τ) dst q X := by
  unfold owns
  iintro H
  iexists dst.view.write (Elt F) fd X Finset.univ
  isplitr; rotate_left; · iexact H
  ipureintro
  exact View.read_write_univ _ _

/-- Elements held are a memref held, at what it reads there. -/
theorem owns_held (c : Dev nD) (src : Memref sig .tc sp s e) (q : PosShare TreeShare) (f : src.view.ty.Contents (Elt F)) :
    (src.view.loc (c : Thread nD τ) ↦[src.view.set]{q} f : sProp 𝕄) ⊢ owns (c : Thread nD τ) src q (src.view.read (Elt F) f) := by
  unfold owns
  iintro H
  iexists f
  isplitr; rotate_left; · iexact H
  ipureintro; rfl

/-- A local copy is started. -/
theorem step_copy (c : Dev nD) {i : DmaSem sig} {src : Memref sig .tc sp s e} {dst : Memref sig .tc sp' s e}
    {h1 : src.view.WordExact} {h2 : dst.view.WordExact} {h3 : DmaTarget.Typed (nD := nD) sp (.dma i) (.here (p := .tc) dst)}
    (q : PosShare TreeShare) (X : s.Idx → Elt F e)
    (hi : kindOf i ≠ .idle) (hN : dst.view.dmaCredit = amt (kindOf i)) (hp : owns (c : Thread nD τ) dst fullShare X ⊢ pay a c (kindOf i)) :
    iprop(Ctx a K ∗ owns (c : Thread nD τ) src q X ∗ anyOwn c dst ∗ tokOf c i ∗ reached ER (dCell c i) 0)
      ⊢ Wp c (Prog.lift (.enqueueDma src (.here dst) (.dma i) h1 h2 h3)) fun _ => credOf c i := by
  unfold anyOwn owns
  iintro ⟨#HC, ⟨%fs, %hX, Hs⟩, ⟨%Y, %fd, -, Hd⟩, Ht, #Hr⟩
  ihave #HI := (Ctx_dma a K c hi) $$ HC
  iapply (Rounds.wp_copy_pointsTo 𝒱₀ ER (Rd a) (c : Thread nD τ) none (src := src) (dst := dst) (sem := .dma i) (q := q)
      (fs := fs) (fd := fd) (r := 0) (d := 0) (κ := K (dCell c i))
      (by rw [duties_dma a c hi]; exact Finset.mem_singleton_self _) () (amt (kindOf i)) hN rfl ?_) $$ [Hs Hd Ht]
  · rw [hX]
    exact sep_elim_left.trans ((owns_written c dst fullShare fd X).trans hp)
  · isplitr; · iexact HI
    isplitl [Hs]; · iexact Hs
    isplitl [Hd]; · iexact Hd
    isplitl [Ht]; · iexact Ht
    iexact Hr
  iintro Hc
  rw [wp_ret]
  imodintro
  iexact Hc

/-- A copy to another device is started: it pays the receiver's semaphore, and the sender's as it leaves. -/
theorem step_send (c c' n : Dev nD) (hn : n = c') {iS iR : DmaSem sig} {src : Memref sig .tc sp s e} {dst : Memref sig .tc sp' s e}
    {h0 : dst.view.ref.isScScratch = false}
    {h1 : src.view.WordExact} {h2 : dst.view.WordExact} {h3 : DmaTarget.Typed (nD := nD) sp (.dma iR) (.remote (Dev.tc n) dst (.dma iS) h0)}
    (q : PosShare TreeShare) (X : s.Idx → Elt F e) (O : CellTallies nD τ sig Unit)
    (hS : kindOf iS ≠ .idle) (hR : kindOf iR ≠ .idle) (hNS : dst.view.dmaCredit = amt (kindOf iS)) (hNR : amt (kindOf iR) = amt (kindOf iS))
    (hpS : owns (c : Thread nD τ) src q X ⊢ pay a c (kindOf iS)) (hpR : owns (c' : Thread nD τ) dst fullShare X ⊢ pay a c' (kindOf iR)) :
    iprop(Ctx a K ∗ owns (c : Thread nD τ) src q X ∗ anyOwn c' dst ∗ owesSome c (O + tallyAt (dCell c' iR) () (amt (kindOf iR)))
        ∗ tokOf c iS ∗ reached ER (dCell c iS) 0 ∗ tokOf c' iR ∗ reached ER (dCell c' iR) 0)
      ⊢ Wp c (Prog.lift (.enqueueDma src (.remote (Dev.tc n) dst (.dma iS) h0) (.dma iR) h1 h2 h3)) fun _ => iprop(credOf c iS ∗ owesSome c O) := by
  subst hn
  unfold anyOwn owesSome
  rw [show (owns (c : Thread nD τ) src q X : sProp 𝕄) = iprop(∃ f, ⌜src.view.read (Elt F) f = X⌝ ∗ (src.view.loc (c : Thread nD τ) ↦[src.view.set]{q} f)) from rfl]
  iintro ⟨#HC, ⟨%fs, %hX, Hs⟩, ⟨%Y, Hd⟩, ⟨%W, HO⟩, Ht, #Hr, Ht', #Hr'⟩
  unfold owns
  icases Hd with ⟨%fd, -, Hd⟩
  ihave #HI := (Ctx_dma a K c hS) $$ HC
  ihave #HI' := (Ctx_dma a K n hR) $$ HC
  iapply (Rounds.wp_send_pointsTo 𝒱₀ ER (Rd a) (c : Thread nD τ) none (c' := (n : Thread nD τ)) (src := src) (dst := dst)
      (sS := .dma iS) (sem := .dma iR) (q := q) (fs := fs) (κ₁ := K (dCell c iS)) (κ₂ := K (dCell n iR))
      (r₁ := 0) (r₂ := 0) (d₁ := 0) (d₂ := 0) (fd := fd)
      (by rw [duties_dma a c hS]; exact Finset.mem_singleton_self _) (by rw [duties_dma a n hR]; exact Finset.mem_singleton_self _)
      () () (amt (kindOf iS)) hNS rfl hNR O (O₀ := O + tallyAt (dCell n iR) () (amt (kindOf iR))) (by rw [hNR]) (W := W) ?_ ?_) $$ [Hs Hd HO Ht Ht']
  · subst hX
    exact (owns_held c src q fs).trans hpS
  · rw [hX]
    exact (owns_written n dst fullShare fd X).trans hpR
  · isplitr; · iexact HI
    isplitr; · iexact HI'
    isplitl [Hs]; · iexact Hs
    isplitl [Hd]; · iexact Hd
    isplitl [HO]; · iexact HO
    isplitl [Ht]; · iexact Ht
    isplitr; · iexact Hr
    isplitl [Ht']; · iexact Ht'
    iexact Hr'
  iintro ⟨Hc, HO⟩
  rw [wp_ret]
  imodintro
  isplitl [Hc]; · iexact Hc
  iexists _; iexact HO

end moves

/-- A signal to a neighbour's barrier, with the slots handed over. -/
theorem step_signal (c c' n : Dev nD) (hn : n = c') (d : Fin 3) (O : CellTallies nD τ sig Unit) :
    iprop(Ctx a K ∗ owesSome c (O + tallyAt (barCell c') () 1) ∗ dutyTok ER (barCell c') 0 d ∗ barPay c' d ∗ reached ER (barCell c') 0)
      ⊢ Wp (F := F) c (semSignalWord n barS 1#32) fun _ => owesSome c O := by
  subst hn
  unfold owesSome
  iintro ⟨#HC, ⟨%W, HO⟩, Ht, Hp, #Hr⟩
  ihave #HI := (Ctx_bar a K n) $$ HC
  iapply (Rounds.wp_signal 𝒱₀ ER (Rd a) (c : Thread nD τ) none (dst := (n : Thread nD τ)) (sem := barS) (r := 0) (d := d) (k' := 1) (κ := K (barCell n))
      (by rw [duties_bar]; exact Finset.mem_univ _) rfl () O rfl (W := W)) $$ [HO Ht Hp]
  · isplitr; · iexact HI
    isplitl [HO]; · iexact HO
    isplitl [Ht]; · iexact Ht
    isplitl [Hp]
    · rw [show (Rd a).payload (barCell n) 0 d = barPay n d from rfl]; iexact Hp
    iexact Hr
  iintro HO
  rw [wp_ret]
  imodintro
  iexists _; iexact HO

/-- The wait for the three signals. -/
theorem step_barrier (c : Dev nD) (O : CellTallies nD τ sig Unit) (hO : Above 1 O) :
    iprop(Ctx a K ∗ cred (tallyAt (barCell c) () 3) ∗ owesSome c O ∗ atPos ER (barCell c) 0 ∅ 0)
      ⊢ Wp (F := F) c (semWaitWord barS 3#32) fun _ => iprop(owesSome c O ∗ atPos ER (barCell c) 1 ∅ 0 ∗ barPay c 0 ∗ barPay c 1 ∗ barPay c 2) := by
  unfold owesSome
  iintro ⟨#HC, Hc, ⟨%W, HO⟩, Hat⟩
  ihave #HI := (Ctx_bar a K c) $$ HC
  ihave #HL := (Ctx_lev a K) $$ HC
  iapply (Rounds.wp_wait_rest_token 𝒱₀ ER (Rd a) (c : Thread nD τ) none (κ := K (barCell c))
      (wpE_semWait_eq 𝒱₀ (c : Thread nD τ) none Set.univ) (Set.mem_univ _) () (O := O) (W := W) (R := 0) (m := 0) (T := ∅) (k' := 3)
      ((Nat.zero_add _).trans (expect_bar a c).symm)) $$ [Hc HO Hat]
  · isplitr; · iexact HI
    isplitl [Hc]; · iexact Hc
    isplitl [HO]; · iexact HO
    isplitr; · iapply (mayWait c (.reg barS) hO); iexact HL
    iexact Hat
  iintro ⟨HO, Hat, -, Hpay⟩
  ihave Hpay := (Entails.of_eq (rest_bar a c)) $$ Hpay
  rw [wp_ret]
  imodintro
  isplitl [HO]; · iexists _; iexact HO
  isplitl [Hat]; · iexact Hat
  iexact Hpay

/-! ## Reading and writing a slot -/

section slots

variable {d : Fin 3 → ℕ} {e : EltTy}

abbrev slotRect (d : Fin 3 → ℕ) (off : Fin 3 → ℕ) (inb : ∀ i, off i + S1x64x1024.size i ≤ d i) : Rect ⟨3, d⟩ :=
  Rect.unit (s := ⟨3, d⟩) off S1x64x1024.size inb

abbrev slotOf (m : Memref sig .tc .vmem ⟨3, d⟩ e) (off : Fin 3 → ℕ) (inb : ∀ i, off i + S1x64x1024.size i ≤ d i) : Memref sig .tc .vmem S64x1024 e :=
  (m.slice (slotRect d off inb) (fun _ => rfl)).squeeze S64x1024 squeezes_S1x64x1024_S64x1024

/-- A load of a slot. -/
theorem step_load (c : Dev nD) (m : Memref sig .tc .vmem ⟨3, d⟩ e) (off : Fin 3 → ℕ) (inb : ∀ i, off i + S1x64x1024.size i ≤ d i)
    (hl : m.view.LoadsAt (slotRect d off inb).toLoadRect) (q : PosShare TreeShare) (Y : Vec F S64x1024 e) :
    (owns (c : Thread nD τ) (slotOf m off inb) q Y : sProp 𝕄)
      ⊢ Wp c (Prog.lift (.load m (slotRect d off inb).toLoadRect hl)) fun x => iprop(owns (c : Thread nD τ) (slotOf m off inb) q Y ∗ ⌜flat x = Y⌝) := by
  unfold owns
  iintro ⟨%f, %hY, H⟩
  iapply (wp_load_rect 𝒱₀ (c : Thread nD τ) none Set.univ (m := m) (r := slotRect d off inb) (f := f) (S := (slotOf m off inb).view.set) ?_) $$ [H]
  · rw [View.set_reshape]
  · iexact H
  iintro H
  rw [wp_ret]
  imodintro
  isplitl [H]
  · iexists f
    isplitr; · ipureintro; exact hY
    iexact H
  ipureintro
  rw [← hY]; rfl

/-- A store into a slot. -/
theorem step_store (c : Dev nD) (m : Memref sig .tc .vmem ⟨3, d⟩ e) (off : Fin 3 → ℕ) (inb : ∀ i, off i + S1x64x1024.size i ≤ d i)
    (Y : Vec F S64x1024 e) (hx : (m.access (slotRect d off inb)).Stores Finset.univ) (hm : Finset.univ = Finset.univ ∨ ∀ i, (slotRect d off inb).stride i = 1) :
    (anyOwn c (slotOf m off inb) : sProp 𝕄)
      ⊢ Wp c (Prog.lift (.store m (slotRect d off inb) (lift3 Y) Finset.univ hx hm)) fun _ => owns (c : Thread nD τ) (slotOf m off inb) fullShare Y := by
  unfold anyOwn owns
  iintro ⟨%Y', %f, -, H⟩
  iapply (wp_store 𝒱₀ (c : Thread nD τ) none Set.univ (m := m) (r := slotRect d off inb) (f := f) (S := (slotOf m off inb).view.set) ?_) $$ [H]
  · rw [View.set_reshape]; exact le_of_eq (View.setOn_univ _)
  · iexact H
  iintro H
  rw [wp_ret]
  imodintro
  iexists _
  isplitr; rotate_left; · iexact H
  ipureintro
  have h : ∀ g : (m.access (slotRect d off inb)).ty.Contents (Elt F), (slotOf m off inb).view.read (Elt F) g = flat ((m.access (slotRect d off inb)).read (Elt F) g) := fun _ => rfl
  rw [h, View.read_write_univ]
  exact shapeCast_shapeCast _ _ _

end slots

end Cert.KernelIdeal.Run
-- ==== Proof.Output.lean ====
/-
  The result of a device: sixteen blocks of sixty-four rows, each written once. Which rows a block is
  written to, what is written there, and what the buffer holds once some of the blocks are written.
-/
module

public import proofs.«01_k».proof.Proof.Steps
public import Idealize.ShloMosaic.Lib.ViewIndex
public import Idealize.ShloMosaic.Lib.ValueIdxCore

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

/-- The blocks in the order of their kinds: the first and the second half of the device's own sums, the
    blocks of the x neighbour, those of the z neighbour. -/
def own1 (j : Fin 4) : Fin 16 := ⟨j.val, by omega⟩
def own2 (j : Fin 4) : Fin 16 := ⟨4 + j.val, by omega⟩
def ofX (j : Fin 4) : Fin 16 := ⟨8 + j.val, by omega⟩
def ofZ (j : Fin 4) : Fin 16 := ⟨12 + j.val, by omega⟩

/-- The offset of a block in the result. -/
def orow (c : Dev nD) (s : Fin 16) : Fin 2 → ℕ :=
  if s.val < 4 then k0_off5 c (BitVec.ofNat 32 (64 * s.val))
  else if s.val < 8 then k0_off6 c (BitVec.ofNat 32 (64 * (s.val - 4)))
  else if s.val < 12 then k0_off7 c (BitVec.ofNat 32 (64 * (s.val - 8)))
  else k0_off8 c (BitVec.ofNat 32 (64 * (s.val - 12)))

/-- The rows the first loop writes its sums to, -/
theorem orow_own1 (c : Dev nD) (j : Fin 4) : k0_off5 c (BitVec.ofNat 32 (64 * j.val)) = orow c (own1 j) := by
  unfold orow own1; rw [if_pos j.isLt]
/-- those the second loop writes its own sums to, -/
theorem orow_own2 (c : Dev nD) (j : Fin 4) : k0_off6 c (BitVec.ofNat 32 (64 * j.val)) = orow c (own2 j) := by
  have := j.isLt
  unfold orow own2; rw [if_neg (by show ¬ (4 + j.val < 4); omega), if_pos (by show 4 + j.val < 8; omega), Nat.add_sub_cancel_left]
/-- those of the blocks from the x neighbour, -/
theorem orow_ofX (c : Dev nD) (j : Fin 4) : k0_off7 c (BitVec.ofNat 32 (64 * j.val)) = orow c (ofX j) := by
  have := j.isLt
  unfold orow ofX; rw [if_neg (by show ¬ (8 + j.val < 4); omega), if_neg (by show ¬ (8 + j.val < 8); omega), if_pos (by show 8 + j.val < 12; omega), Nat.add_sub_cancel_left]
/-- and those from the z neighbour. -/
theorem orow_ofZ (c : Dev nD) (j : Fin 4) : k0_off8 c (BitVec.ofNat 32 (64 * j.val)) = orow c (ofZ j) := by
  have := j.isLt
  unfold orow ofZ; rw [if_neg (by show ¬ (12 + j.val < 4); omega), if_neg (by show ¬ (12 + j.val < 8); omega), if_neg (by show ¬ (12 + j.val < 12); omega), Nat.add_sub_cancel_left]

/-- The sixty-four rows a block is written to, numbered from the top. -/
def blk (c : Dev nD) (s : Fin 16) : ℕ := orow c s 0 / 64

/-- Every block starts at a multiple of sixty-four rows, -/
theorem orow_zero (c : Dev nD) (s : Fin 16) : orow c s 0 = 64 * blk c s := by revert c s; decide +kernel
/-- at the first column, -/
theorem orow_one (c : Dev nD) (s : Fin 16) : orow c s 1 = 0 := by revert c s; decide +kernel
/-- inside the result, -/
theorem blk_lt (c : Dev nD) (s : Fin 16) : blk c s < 16 := by revert c s; decide +kernel
/-- and no two blocks at the same rows. -/
theorem blk_inj (c : Dev nD) (s s' : Fin 16) (h : blk c s = blk c s') : s = s' := by revert c s s'; decide +kernel

/-- The block written to rows `64 * b`, …, `64 * b + 63`. -/
def slotAt (c : Dev nD) (b : ℕ) : Fin 16 := ((List.finRange 16).find? fun s => blk c s == b).getD 0

/-- Some block is written to each sixty-four rows. -/
theorem blk_slotAt (c : Dev nD) (b : Fin 16) : blk c (slotAt c b.val) = b.val := by revert c b; decide +kernel

/-- A block lies inside the result. -/
theorem orow_inb (c : Dev nD) (s : Fin 16) : ∀ i, orow c s i + S64x1024.size i ≤ S1024x1024.size i := by
  have h := blk_lt c s
  intro i
  match i with
  | 0 => rw [orow_zero]; show 64 * blk c s + 64 ≤ 1024; omega
  | 1 => rw [orow_one]; exact le_of_eq (Nat.zero_add _)

/-- The rectangle of a block in the result. -/
abbrev orect (c : Dev nD) (s : Fin 16) : Rect S1024x1024 := Rect.unit (s := S1024x1024) (orow c s) S64x1024.size (orow_inb c s)

/-- Two blocks have no element in common. -/
theorem orect_disjoint (c : Dev nD) {s s' : Fin 16} (h : s ≠ s') : Disjoint (orect c s).set (orect c s').set := by
  refine Rect.disjoint_of_separated _ _ 0 ?_
  have hne : blk c s ≠ blk c s' := fun e => h (blk_inj c s s' e)
  show (64 = 0 ∨ orow c s 0 + 1 * (64 - 1) < orow c s' 0) ∨ (64 = 0 ∨ orow c s' 0 + 1 * (64 - 1) < orow c s 0)
  rw [orow_zero, orow_zero]; omega

/-- The sums a block is made from. -/
def osum (c : Dev nD) (s : Fin 16) : FVec F S64x1024 .f32 :=
  if h : s.val < 8 then sval a c ⟨s.val, h⟩
  else if h' : s.val < 12 then wid (gval a (xn c) ⟨s.val - 8, by omega⟩)
  else wid (gval a (zn c) ⟨s.val - 12, by omega⟩)

/-- What is written of a block. -/
def oval (c : Dev nD) (s : Fin 16) : FVec F S64x1024 .bf16 := normed (osum a c s) (a.2 c)

/-- The sums written in the first loop, -/
theorem osum_own1 (c : Dev nD) (j : Fin 4) : osum a c (own1 j) = sval a c (Fin.castLE (by decide) j) := by
  have := j.isLt
  unfold osum own1; rw [dif_pos (by show j.val < 8; omega)]; rfl
/-- and those written in the second, are a device's own; -/
theorem osum_own2 (c : Dev nD) (j : Fin 4) : osum a c (own2 j) = sval a c (Fin.natAdd 4 j) := by
  have := j.isLt
  unfold osum own2; rw [dif_pos (by show 4 + j.val < 8; omega)]; rfl
/-- the others are the rounded sums of the x neighbour, -/
theorem osum_ofX (c : Dev nD) (j : Fin 4) : osum a c (ofX j) = wid (gval a (xn c) j) := by
  have := j.isLt
  unfold osum ofX; rw [dif_neg (by show ¬ (8 + j.val < 8); omega), dif_pos (by show 8 + j.val < 12; omega)]
  congr 2; exact Fin.ext (Nat.add_sub_cancel_left _ _)
/-- and of the z neighbour. -/
theorem osum_ofZ (c : Dev nD) (j : Fin 4) : osum a c (ofZ j) = wid (gval a (zn c) j) := by
  have := j.isLt
  unfold osum ofZ; rw [dif_neg (by show ¬ (12 + j.val < 8); omega), dif_neg (by show ¬ (12 + j.val < 12); omega)]
  congr 2; exact Fin.ext (Nat.add_sub_cancel_left _ _)

/-- The whole result of a device, row by row. -/
def result (c : Dev nD) : Vec F S1024x1024 .bf16 := fun i =>
  oval a c (slotAt c ((i 0).val / 64)) (ValueIdx.ix2 (⟨(i 0).val % 64, Nat.mod_lt _ (by decide)⟩ : Fin 64) (i 1))

/-- The result buffer once the blocks in `S` are written. -/
def outAt (c : Dev nD) (S : Finset (Fin 16)) : sProp 𝕄 :=
  iprop(∃ f : Vec F S1024x1024 .bf16, ((c : Thread nD τ).loc cc0_stg0_0 ↦{fullShare} f)
    ∗ ⌜∀ s ∈ S, (obuf.access (orect c s)).read (Elt F) f = oval a c s⌝)

/-- A buffer that holds all sixteen blocks holds the result. -/
theorem result_of_all (c : Dev nD) (f : Vec F S1024x1024 .bf16)
    (h : ∀ s, (obuf.access (orect c s)).read (Elt F) f = oval a c s) : f = result a c := by
  funext i
  have hb : (i 0).val / 64 < 16 := by have := (i 0).isLt; have : (i 0).val < 1024 := this; omega
  have e := blk_slotAt c ⟨(i 0).val / 64, hb⟩
  unfold result
  rw [← h]
  show f i = f ((orect c _).emb _)
  congr 1
  funext x
  apply Fin.ext
  match x with
  | 0 =>
    show (i 0).val = orow c _ 0 + 1 * ((i 0).val % 64)
    rw [orow_zero, e]
    show _ = 64 * ((i 0).val / 64) + _
    omega
  | 1 =>
    show (i 1).val = orow c _ 1 + 1 * (i 1).val
    rw [orow_one]; omega

/-- The weights in hand. -/
abbrev weights (c : Dev nD) : sProp 𝕄 := owns (c : Thread nD τ) gvmem fullShare (a.2 c)

/-- Reading the weights. -/
theorem step_loadG (c : Dev nD) : weights a c ⊢ Wp c loadG fun g => iprop(weights a c ∗ ⌜g = a.2 c⌝) := by
  unfold weights
  rw [owns_whole]
  iintro H
  iapply (wp_load_rect 𝒱₀ (c : Thread nD τ) none Set.univ (m := gvmem) (r := Rect.unit (s := S1x1024) ![0, 0] S1x1024.size inb_S1x1024_S1x1024_0_0)
    (f := a.2 c) (S := Finset.univ) (Finset.subset_univ _)) $$ [H]
  · iexact H
  iintro H
  rw [wp_ret]
  imodintro
  isplitl [H]; · iexact H
  ipureintro
  exact Memref.read_access_unit_zero (Elt F) cc0_scratch7 (by decide) inb_S1x1024_S1x1024_0_0 (a.2 c)

/-- Writing a block of the result. -/
theorem step_emit (c : Dev nD) (s : Fin 16) (S : Finset (Fin 16)) (off : Fin 2 → ℕ) (ho : off = orow c s)
    (inb : ∀ i, off i + S64x1024.size i ≤ S1024x1024.size i)
    (packed : (Rect.unit (s := S1024x1024) off S64x1024.size inb).PackedRows (EltTy.packing .bf16))
    (v : FVec F S64x1024 .f32) (hv : v = osum a c s) :
    iprop(weights a c ∗ outAt a c S) ⊢ Wp c (emit off inb packed v) fun _ => iprop(weights a c ∗ outAt a c (insert s S)) := by
  subst ho hv
  unfold emit
  iintro ⟨Hg, Ho⟩
  iapply (next (step_loadG a c)) $$ [Hg]; · iexact Hg
  iintro %g ⟨Hg, %hg⟩
  subst hg
  unfold outAt
  icases Ho with ⟨%f, Ho, %hf⟩
  iapply (wp_load_rect 𝒱₀ (c : Thread nD τ) none Set.univ (m := obuf) (r := orect c s) (f := f) (S := Finset.univ) (Finset.subset_univ _)) $$ [Ho]
  · iexact Ho
  iintro Ho
  iapply (wp_store 𝒱₀ (c : Thread nD τ) none Set.univ (m := obuf) (r := orect c s) (f := f) (S := Finset.univ) (Finset.subset_univ _)) $$ [Ho]
  · iexact Ho
  iintro Ho
  rw [wp_ret]
  imodintro
  isplitl [Hg]; · iexact Hg
  iexists _
  isplitl [Ho]; · iexact Ho
  ipureintro
  intro s' hs'
  by_cases e : s' = s
  · subst e
    exact View.read_write_univ _ _
  · rw [← hf s' ((Finset.mem_insert.mp hs').resolve_left e)]
    refine View.read_slice_write_slice_of_disjoint _ _ _ _ _ ?_
    rw [View.setOn_univ]
    rw [View.set_slice, View.set_slice]
    exact (Finset.disjoint_map _).mpr (orect_disjoint c e)

end Cert.KernelIdeal.Run
-- ==== Proof.Phases.lean ====
/-
  The phases of the kernel: fetching a block, staging it for the y neighbour, sending it, picking up a
  sum, sending it on along x and z, writing the result, taking the neighbours' blocks, and waiting for
  the sends to leave. Each is stated for one block; what a device still owes is what its later sends
  will raise.
-/
module

public import proofs.«01_k».proof.Proof.Output

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

variable (K : GSem nD τ sig → ℕ)

/-- The block of the first half that is also sent along x and z. -/
abbrev lo (j : Fin 4) : Fin 8 := Fin.castLE (by decide) j

/-! ## What is owed -/

/-- What a send raises at its receiver. -/
abbrev owedAt (c : Dev nD) (i : DmaSem sig) : CellTallies nD τ sig Unit := tallyAt (dCell c i) () (amt (kindOf i))

/-- Owed by the sends along y from block `n` on, and by those along x and z from block `n` on. -/
def OY (c : Dev nD) (n : ℕ) : CellTallies nD τ sig Unit := ∑ k ∈ Finset.univ.filter (fun k : Fin 8 => n ≤ k.val), owedAt (yn c) (ysR k)
def OX (c : Dev nD) (n : ℕ) : CellTallies nD τ sig Unit := ∑ j ∈ Finset.univ.filter (fun j : Fin 4 => n ≤ j.val), owedAt (xn c) (xsR j)
def OZ (c : Dev nD) (n : ℕ) : CellTallies nD τ sig Unit := ∑ j ∈ Finset.univ.filter (fun j : Fin 4 => n ≤ j.val), owedAt (zn c) (zsR j)

/-- What is owed from block `i` on is what is owed after it, and block `i`. -/
theorem from_step {n : ℕ} (O : Fin n → CellTallies nD τ sig Unit) (i : Fin n) :
    (∑ k ∈ Finset.univ.filter (fun k : Fin n => i.val ≤ k.val), O k) = (∑ k ∈ Finset.univ.filter (fun k : Fin n => i.val + 1 ≤ k.val), O k) + O i := by
  rw [show Finset.univ.filter (fun k : Fin n => i.val ≤ k.val) = insert i (Finset.univ.filter (fun k : Fin n => i.val + 1 ≤ k.val)) from by
    ext k; simp only [Finset.mem_filter, Finset.mem_univ, true_and, Finset.mem_insert, Fin.ext_iff]; omega,
    Finset.sum_insert (by simp), add_comm]

/-- After the last block nothing is owed. -/
theorem from_end {n : ℕ} (O : Fin n → CellTallies nD τ sig Unit) :
    (∑ k ∈ Finset.univ.filter (fun k : Fin n => n ≤ k.val), O k) = 0 := by
  rw [Finset.filter_false_of_mem (fun k _ => by have := k.isLt; omega), Finset.sum_empty]

/-- Blocks owed along y are above the barrier, -/
theorem OY_above (c : Dev nD) (n : ℕ) : Above 1 (OY c n) := Above.sum _ _ fun k => Above.single _ _ _ (by
  show 1 < lvK (kindOf (ysR k)); rw [kind_ysR]; show 1 < 2; decide)
/-- blocks owed along x are above those along y, -/
theorem OX_above (c : Dev nD) (n : ℕ) : Above 2 (OX c n) := Above.sum _ _ fun j => Above.single _ _ _ (by
  show 2 < lvK (kindOf (xsR j)); rw [kind_xsR]; show 2 < 3; decide)
/-- and so are blocks owed along z; -/
theorem OZ_above (c : Dev nD) (n : ℕ) : Above 2 (OZ c n) := Above.sum _ _ fun j => Above.single _ _ _ (by
  show 2 < lvK (kindOf (zsR j)); rw [kind_zsR]; show 2 < 3; decide)

/-- so all sends are above the barrier. -/
theorem sends_above (c : Dev nD) (n : ℕ) : Above 1 (OX c 0 + OZ c 0 + OY c n) :=
  (((OX_above c 0).add (OZ_above c 0)).mono (by decide)).add (OY_above c n)

/-! ## The copies' sources -/

/-- The argument, in hand at some share. -/
def argHeld (c : Dev nD) : sProp 𝕄 := iprop(∃ q, ((c : Thread nD τ).loc main_arg0 ↦{q} a.1 c))

/-- A share of a block of the argument, for a copy of it. -/
theorem arg_take (c : Dev nD) (src : Memref sig .tc .hbm S64x1024 .f32) (h : src.view.loc (c : Thread nD τ) = (c : Thread nD τ).loc main_arg0)
    (f : src.view.ty.Contents (Elt F)) (q : PosShare TreeShare) :
    (src.view.loc (c : Thread nD τ) ↦{q} f : sProp 𝕄)
      ⊢ iprop(owns (c : Thread nD τ) src q.left (src.view.read (Elt F) f) ∗ (src.view.loc (c : Thread nD τ) ↦{q.right} f)) := by
  refine (pointsTo_share (PosShare.mem_left_op_right q)).1.trans ?_
  refine sep_mono_left ?_
  exact ((pointsTo_split_subset (Finset.subset_univ src.view.set)).1.trans sep_elim_left).trans (owns_held c src q.left f)

/-- For each copy of a device's own block some share of the argument, -/
theorem argL (c : Dev nD) (k : Fin 8) : argHeld a c ⊢ iprop(∃ q, owns (c : Thread nD τ) (srcL c k) q (lblk a c k) ∗ argHeld a c) := by
  unfold argHeld
  iintro ⟨%q, H⟩
  ihave H := (arg_take c (srcL c k) rfl (a.1 c) q) $$ H
  icases H with ⟨H, H'⟩
  iexists q.left
  isplitl [H]; · iexact H
  iexists q.right; iexact H'

/-- and for each copy of a block it gives away, with some share left. -/
theorem argS (c : Dev nD) (k : Fin 8) : argHeld a c ⊢ iprop(∃ q, owns (c : Thread nD τ) (srcS c k) q (sblk a c k) ∗ argHeld a c) := by
  unfold argHeld
  iintro ⟨%q, H⟩
  ihave H := (arg_take c (srcS c k) rfl (a.1 c) q) $$ H
  icases H with ⟨H, H'⟩
  iexists q.left
  isplitl [H]; · iexact H
  iexists q.right; iexact H'

/-! ## The credits of the slots -/

/-- What a slot's copy is worth, for each buffer: the device's own blocks, -/
theorem credit_l (k : Fin 8) : (slot8 lbuf k).view.dmaCredit = amt (kindOf (cpl k)) := by rw [kind_cpl]; rfl
/-- the blocks it gives away, -/
theorem credit_s (k : Fin 8) : (slot8 sbuf k).view.dmaCredit = amt (kindOf (cps k)) := by rw [kind_cps]; rfl
/-- their staging slots, -/
theorem credit_ys (k : Fin 8) : (slot8 ysend k).view.dmaCredit = amt (kindOf (ysS k)) := by rw [kind_ysS]; rfl
/-- the slots they land in, at the receiver -/
theorem credit_yr (k : Fin 8) : (slot8 yrecv k).view.dmaCredit = amt (kindOf (ysR k)) := by rw [kind_ysR]; rfl
/-- and at the sender, -/
theorem credit_yrs (k : Fin 8) : (slot8 yrecv k).view.dmaCredit = amt (kindOf (ysS k)) := by rw [kind_ysS]; rfl
/-- the sums sent on along x -/
theorem credit_gx (j : Fin 4) : (slot4 gsend j).view.dmaCredit = amt (kindOf (xsS j)) := by rw [kind_xsS]; rfl
/-- and along z, -/
theorem credit_gz (j : Fin 4) : (slot4 gsend j).view.dmaCredit = amt (kindOf (zsS j)) := by rw [kind_zsS]; rfl
/-- and the slots these land in, at the x neighbour -/
theorem credit_x (j : Fin 4) : (slot4 xrecv j).view.dmaCredit = amt (kindOf (xsR j)) := by rw [kind_xsR]; rfl
/-- and at the z neighbour, -/
theorem credit_z (j : Fin 4) : (slot4 zrecv j).view.dmaCredit = amt (kindOf (zsR j)) := by rw [kind_zsR]; rfl
/-- with the same worth at the sender along x -/
theorem credit_xs (j : Fin 4) : (slot4 xrecv j).view.dmaCredit = amt (kindOf (xsS j)) := by rw [kind_xsS]; rfl
/-- and along z. -/
theorem credit_zs (j : Fin 4) : (slot4 zrecv j).view.dmaCredit = amt (kindOf (zsS j)) := by rw [kind_zsS]; rfl

/-- A semaphore whose use is not idle is in use; -/
theorem live_of {i : DmaSem sig} {κ : Kind} (h : kindOf i = κ) (hκ : κ ≠ .idle) : kindOf i ≠ .idle := h ▸ hκ
/-- its copy hands over what the use says, -/
theorem pay_of (c : Dev nD) {i : DmaSem sig} {κ : Kind} (h : kindOf i = κ) : pay a c (kindOf i) = pay a c κ := by rw [h]
/-- and what is owed above `n` is owed above its level, if that is at most `n`. -/
theorem above_of {i : DmaSem sig} {κ : Kind} (h : kindOf i = κ) {n : ℕ} (hn : lvK κ ≤ n) {O : CellTallies nD τ sig Unit} (hO : Above n O) :
    Above (lvK (kindOf i)) O := by rw [h]; exact hO.mono hn

/-! ## The phases -/

/-- The right to start a copy on a semaphore. -/
abbrev ready (c : Dev nD) (i : DmaSem sig) : sProp 𝕄 := iprop(tokOf c i ∗ reached ER (dCell c i) 0)

def fetchA (c : Dev nD) (k : Fin 8) : sProp 𝕄 := iprop((anyOwn c (slot8 lbuf k) ∗ ready c (cpl k)) ∗ (anyOwn c (slot8 sbuf k) ∗ ready c (cps k)))
def fetchB (c : Dev nD) (k : Fin 8) : sProp 𝕄 := iprop(credOf c (cpl k) ∗ credOf c (cps k))

/-- The two copies of block `k` are started. -/
theorem do_fetch (c : Dev nD) (k : Fin 8) :
    iprop((Ctx a K ∗ argHeld a c) ∗ fetchA c k) ⊢ Wp c (fetch c k) fun _ => iprop((Ctx a K ∗ argHeld a c) ∗ fetchB c k) := by
  unfold fetchA fetchB fetch
  iintro ⟨⟨#HC, Ha⟩, ⟨Hl, Ht, #Hr⟩, Hs, Ht', #Hr'⟩
  ihave Ha := (argL a c k) $$ Ha
  icases Ha with ⟨%q, Hsrc, Ha⟩
  iapply (next (step_copy a K c q (lblk a c k) (live_of (kind_cpl k) (by simp)) (credit_l k) (by rw [kind_cpl]; exact .rfl))) $$ [Hsrc Hl Ht]
  · isplitr; · iexact HC
    isplitl [Hsrc]; · iexact Hsrc
    isplitl [Hl]; · iexact Hl
    isplitl [Ht]; · iexact Ht
    iexact Hr
  iintro %_ Hc
  ihave Ha := (argS a c k) $$ Ha
  icases Ha with ⟨%q', Hsrc, Ha⟩
  iapply (tail (step_copy a K c q' (sblk a c k) (live_of (kind_cps k) (by simp)) (credit_s k) (by rw [kind_cps]; exact .rfl))) $$ [Hsrc Hs Ht']
  · isplitr; · iexact HC
    isplitl [Hsrc]; · iexact Hsrc
    isplitl [Hs]; · iexact Hs
    isplitl [Ht']; · iexact Ht'
    iexact Hr'
  iintro %_ Hc'
  isplitl [Ha]
  · isplitr; · iexact HC
    iexact Ha
  isplitl [Hc]; · iexact Hc
  iexact Hc'

/-- A slot at known values is a slot. -/
theorem any_of (c : Dev nD) {sp : Space} {s : Shape} {e : EltTy} (m : Memref sig .tc sp s e) (Y : s.Idx → Elt F e) :
    (owns (c : Thread nD τ) m fullShare Y : sProp 𝕄) ⊢ anyOwn c m := by
  iintro H; iexists Y; iexact H

def stageA (c : Dev nD) (k : Fin 8) : sProp 𝕄 := iprop(credOf c (cps k) ∗ atStart c (cps k) ∗ anyOwn c (slot8 ysend k))
def stageB (c : Dev nD) (k : Fin 8) : sProp 𝕄 := iprop(atEnd c (cps k) ∗ anyOwn c (slot8 sbuf k))

/-- Block `k` is awaited, rounded and put into its staging slot. -/
theorem do_stage (c : Dev nD) (k : Fin 8) (O : CellTallies nD τ sig Unit) (hO : Above 0 O) :
    iprop(Ctx a K ∗ owesSome c O ∗ stageA c k)
      ⊢ Wp c (stage c k) fun _ => iprop(owesSome c O ∗ stageB c k ∗ owns (c : Thread nD τ) (slot8 ysend k) fullShare (yval a c k)) := by
  unfold stageA stageB stage
  iintro ⟨#HC, HO, Hc, Hat, Hy⟩
  iapply (next (step_wait a K c O (live_of (kind_cps k) (by simp)) (credit_s k) (above_of (kind_cps k) (le_of_eq rfl) hO))) $$ [HO Hc Hat]
  · isplitr; · iexact HC
    isplitl [Hc]; · iexact Hc
    isplitl [HO]; · iexact HO
    iexact Hat
  iintro %_ ⟨HO, Hat, Hp⟩
  ihave Hs := (Entails.of_eq (pay_of a c (kind_cps k))) $$ Hp
  unfold pay
  iapply (next (step_load c sbuf ![k.val, 0, 0] (inb8 k) (View.loadsAt_vmem h_S1x64x1024) fullShare (sblk a c k))) $$ [Hs]; · iexact Hs
  iintro %v ⟨Hs, %hv⟩
  icases Hy with ⟨%Y, Hy⟩
  iapply (next (step_load c ysend ![k.val, 0, 0] (inb8 k) (View.loadsAt_vmem h_S1x64x1024) fullShare Y)) $$ [Hy]; · iexact Hy
  iintro %v' ⟨Hy, -⟩
  rw [hv]
  ihave Hy := (any_of c (slot8 ysend k) Y) $$ Hy
  iapply (tail (step_store c ysend ![k.val, 0, 0] (inb8 k) (rnd (sblk a c k)) _ _)) $$ [Hy]; · iexact Hy
  iintro %_ Hy
  isplitl [HO]; · iexact HO
  isplitr [Hy]
  · isplitl [Hat]; · iexact Hat
    iapply (any_of c (slot8 sbuf k) _); iexact Hs
  iexact Hy

/-- What a send to the y neighbour needs besides the slot it sends. -/
def sendA (c : Dev nD) (k : Fin 8) : sProp 𝕄 :=
  iprop(ready c (ysS k) ∗ tokOf (yn c) (ysR k) ∗ (anyOwn (yn c) (slot8 yrecv k) ∗ reached ER (dCell (yn c) (ysR k)) 0))

/-- The staged block is sent to the y neighbour. -/
theorem do_sendY (c : Dev nD) (k : Fin 8) (O : CellTallies nD τ sig Unit) :
    iprop(Ctx a K ∗ owesSome c (O + owedAt (yn c) (ysR k)) ∗ owns (c : Thread nD τ) (slot8 ysend k) fullShare (yval a c k) ∗ sendA c k)
      ⊢ Wp c (sendY c k) fun _ => iprop(credOf c (ysS k) ∗ owesSome c O) := by
  unfold sendA sendY
  iintro ⟨#HC, HO, Hy, ⟨Ht, #Hr⟩, Ht', Hd, #Hr'⟩
  iapply (step_send a K c (yn c) (ydev c k) (ydev_eq c k) fullShare (yval a c k) O (live_of (kind_ysS k) (by simp)) (live_of (kind_ysR k) (by simp))
    (credit_yrs k) (by rw [kind_ysR, kind_ysS]; rfl) (by rw [kind_ysS]; exact .rfl) (by rw [kind_ysR]; unfold pay; rw [yn_yn]))
  isplitr; · iexact HC
  isplitl [Hy]; · iexact Hy
  isplitl [Hd]; · iexact Hd
  isplitl [HO]; · iexact HO
  isplitl [Ht]; · iexact Ht
  isplitr; · iexact Hr
  isplitl [Ht']; · iexact Ht'
  iexact Hr'

def pickA (c : Dev nD) (k : Fin 8) : sProp 𝕄 := iprop((credOf c (ysR k) ∗ atStart c (ysR k)) ∗ (credOf c (cpl k) ∗ atStart c (cpl k)))
def pickB (c : Dev nD) (k : Fin 8) : sProp 𝕄 :=
  iprop((atEnd c (ysR k) ∗ anyOwn c (slot8 yrecv k)) ∗ (atEnd c (cpl k) ∗ anyOwn c (slot8 lbuf k)))

/-- The y neighbour's block and the own one are awaited and added; then the body goes on with the sum. -/
theorem do_pick (c : Dev nD) (k : Fin 8) (O : CellTallies nD τ sig Unit) (hO : Above 2 O) (cont : FVec F S64x1024 .f32 → Pr F PUnit)
    (P : sProp 𝕄) (Q : PUnit → sProp 𝕄) (h : iprop(owesSome c O ∗ P) ⊢ Wp c (cont (sval a c k)) Q) :
    iprop(Ctx a K ∗ owesSome c O ∗ pickA c k ∗ P) ⊢ Wp c (pick c k cont) fun x => iprop(Q x ∗ pickB c k) := by
  unfold pickA pickB pick
  iintro ⟨#HC, HO, ⟨⟨Hc, Hat⟩, Hc', Hat'⟩, HP⟩
  iapply (next (step_wait a K c O (live_of (kind_ysR k) (by simp)) (credit_yr k) (above_of (kind_ysR k) (le_of_eq rfl) hO))) $$ [HO Hc Hat]
  · isplitr; · iexact HC
    isplitl [Hc]; · iexact Hc
    isplitl [HO]; · iexact HO
    iexact Hat
  iintro %_ ⟨HO, Hat, Hp⟩
  ihave Hy := (Entails.of_eq (pay_of a c (kind_ysR k))) $$ Hp
  iapply (next (step_wait a K c O (live_of (kind_cpl k) (by simp)) (credit_l k) (above_of (kind_cpl k) (Nat.zero_le _) hO))) $$ [HO Hc' Hat']
  · isplitr; · iexact HC
    isplitl [Hc']; · iexact Hc'
    isplitl [HO]; · iexact HO
    iexact Hat'
  iintro %_ ⟨HO, Hat', Hp⟩
  ihave Hl := (Entails.of_eq (pay_of a c (kind_cpl k))) $$ Hp
  unfold pay
  iapply (next (step_load c lbuf ![k.val, 0, 0] (inb8 k) (View.loadsAt_vmem h_S1x64x1024) fullShare (lblk a c k))) $$ [Hl]; · iexact Hl
  iintro %l ⟨Hl, %hl⟩
  iapply (next (step_load c yrecv ![k.val, 0, 0] (inb8 k) (View.loadsAt_vmem h_S1x64x1024) fullShare (yval a (yn c) k))) $$ [Hy]; · iexact Hy
  iintro %r ⟨Hy, %hr⟩
  rw [hl, hr]
  iapply (tail h) $$ [HO HP]
  · isplitl [HO]; · iexact HO
    iexact HP
  iintro %_ HQ
  isplitl [HQ]; · iexact HQ
  isplitl [Hat Hy]
  · isplitl [Hat]; · iexact Hat
    iapply (any_of c (slot8 yrecv k) _); iexact Hy
  isplitl [Hat']; · iexact Hat'
  iapply (any_of c (slot8 lbuf k) _); iexact Hl

/-- What a send along x, or along z, needs besides the slot it sends. -/
def sendXA (c : Dev nD) (j : Fin 4) : sProp 𝕄 :=
  iprop(ready c (xsS j) ∗ tokOf (xn c) (xsR j) ∗ (anyOwn (xn c) (slot4 xrecv j) ∗ reached ER (dCell (xn c) (xsR j)) 0))
def sendZA (c : Dev nD) (j : Fin 4) : sProp 𝕄 :=
  iprop(ready c (zsS j) ∗ tokOf (zn c) (zsR j) ∗ (anyOwn (zn c) (slot4 zrecv j) ∗ reached ER (dCell (zn c) (zsR j)) 0))

/-- A slot read by two sends is lent half to each. -/
theorem owns_halves (c : Dev nD) {sp : Space} {s : Shape} {e : EltTy} (m : Memref sig .tc sp s e) (Y : s.Idx → Elt F e) :
    (owns (c : Thread nD τ) m fullShare Y : sProp 𝕄) ⊢ iprop(owns (c : Thread nD τ) m fullShare.left Y ∗ owns (c : Thread nD τ) m fullShare.right Y) := by
  unfold owns
  iintro ⟨%f, %hf, H⟩
  ihave H := (pointsTo_share (PosShare.mem_left_op_right fullShare)).1 $$ H
  icases H with ⟨H, H'⟩
  isplitl [H]
  · iexists f
    isplitr; · ipureintro; exact hf
    iexact H
  · iexists f
    isplitr; · ipureintro; exact hf
    iexact H'

/-- A sum is sent to the x and to the z neighbour. -/
theorem do_sendXZ (c : Dev nD) (j : Fin 4) (O : CellTallies nD τ sig Unit) :
    iprop(Ctx a K ∗ owesSome c (O + owedAt (zn c) (zsR j) + owedAt (xn c) (xsR j)) ∗ owns (c : Thread nD τ) (slot4 gsend j) fullShare (gval a c j) ∗ sendXA c j ∗ sendZA c j)
      ⊢ Wp c (sendXZ c j) fun _ => iprop(owesSome c O ∗ credOf c (xsS j) ∗ credOf c (zsS j)) := by
  unfold sendXA sendZA sendXZ
  iintro ⟨#HC, HO, Hg, ⟨⟨Ht, #Hr⟩, Ht', Hd, #Hr'⟩, ⟨Hu, #Hv⟩, Hu', He, #Hv'⟩
  ihave Hg := (owns_halves c (slot4 gsend j) (gval a c j)) $$ Hg
  icases Hg with ⟨Hgl, Hgr⟩
  iapply (next (step_send a K c (xn c) (xdev c j) (xdev_eq c j) fullShare.left (gval a c j) (O + owedAt (zn c) (zsR j)) (live_of (kind_xsS j) (by simp)) (live_of (kind_xsR j) (by simp))
    (credit_xs j) (by rw [kind_xsR, kind_xsS]; rfl) (by rw [kind_xsS]; exact .rfl) (by rw [kind_xsR]; unfold pay; rw [xn_xn]))) $$ [HO Hgl Hd Ht Ht']
  · isplitr; · iexact HC
    isplitl [Hgl]; · iexact Hgl
    isplitl [Hd]; · iexact Hd
    isplitl [HO]; · iexact HO
    isplitl [Ht]; · iexact Ht
    isplitr; · iexact Hr
    isplitl [Ht']; · iexact Ht'
    iexact Hr'
  iintro %_ ⟨Hc, HO⟩
  iapply (tail (step_send a K c (zn c) (zdev c j) (zdev_eq c j) fullShare.right (gval a c j) O (live_of (kind_zsS j) (by simp)) (live_of (kind_zsR j) (by simp))
    (credit_zs j) (by rw [kind_zsR, kind_zsS]; rfl) (by rw [kind_zsS]; exact .rfl) (by rw [kind_zsR]; unfold pay; rw [zn_zn]))) $$ [HO Hgr He Hu Hu']
  · isplitr; · iexact HC
    isplitl [Hgr]; · iexact Hgr
    isplitl [He]; · iexact He
    isplitl [HO]; · iexact HO
    isplitl [Hu]; · iexact Hu
    isplitr; · iexact Hv
    isplitl [Hu']; · iexact Hu'
    iexact Hv'
  iintro %_ ⟨Hc', HO⟩
  isplitl [HO]; · iexact HO
  isplitl [Hc]; · iexact Hc
  iexact Hc'

/-- The blocks written before step `n` of the first loop, and of the second. -/
def S1 (n : ℕ) : Finset (Fin 16) := Finset.univ.filter fun s => s.val < n
def S2 (n : ℕ) : Finset (Fin 16) := Finset.univ.filter fun s => s.val % 4 < n ∨ s.val < 4

/-- Each step of the first loop writes one block, -/
theorem S1_step (j : Fin 4) : insert (own1 j) (S1 j.val) = S1 (j.val + 1) := by revert j; decide
/-- each step of the second three; -/
theorem S2_step (j : Fin 4) : insert (ofZ j) (insert (ofX j) (insert (own2 j) (S2 j.val))) = S2 (j.val + 1) := by revert j; decide
/-- the first starts from none, -/
theorem S1_zero : S1 0 = ∅ := by decide
/-- the second where the first ended, -/
theorem S2_zero : S2 0 = S1 4 := by decide
/-- and at the end all are written. -/
theorem S2_four : S2 4 = Finset.univ := by decide

/-- What the first loop keeps: what is owed, the weights, the result so far. -/
def R1 (c : Dev nD) (n : ℕ) : sProp 𝕄 := iprop(Ctx a K ∗ owesSome c (OX c n + OZ c n) ∗ weights a c ∗ outAt a c (S1 n))
def firstA (c : Dev nD) (j : Fin 4) : sProp 𝕄 := iprop(pickA c (lo j) ∗ anyOwn c (slot4 gsend j) ∗ sendXA c j ∗ sendZA c j)
def firstB (c : Dev nD) (j : Fin 4) : sProp 𝕄 := iprop((credOf c (xsS j) ∗ credOf c (zsS j)) ∗ pickB c (lo j))

/-- A step of the first loop: a sum, sent on to two neighbours and written. -/
theorem do_first (c : Dev nD) (j : Fin 4) :
    iprop(R1 a K c j.val ∗ firstA c j) ⊢ Wp c (first c j) fun _ => iprop(R1 a K c (j.val + 1) ∗ firstB c j) := by
  have hO : OX c j.val + OZ c j.val = (OX c (j.val + 1) + OZ c (j.val + 1)) + owedAt (zn c) (zsR j) + owedAt (xn c) (xsR j) := by
    unfold OX OZ; rw [from_step (fun j => owedAt (xn c) (xsR j)) j, from_step (fun j => owedAt (zn c) (zsR j)) j, add_add_add_comm, add_comm (owedAt (xn c) (xsR j)) (owedAt (zn c) (zsR j)), ← add_assoc]
  have cont : iprop(owesSome c (OX c j.val + OZ c j.val) ∗ (Ctx a K ∗ (weights a c ∗ outAt a c (S1 j.val)) ∗ anyOwn c (slot4 gsend j) ∗ sendXA c j ∗ sendZA c j))
      ⊢ Wp c (load4 gsend j >>= fun _ =>
          Prog.lift (.store gsend (rect4 j) (lift3 (rnd (sval a c (lo j)))) Finset.univ
            (View.stores_vmem h_S1x64x1024 ((Memref.isWhole_whole _).storeExact_slice rfl _ (packed4 j)) (fun _ => rfl)) (.inl rfl)) >>= fun _ =>
          sendXZ c j >>= fun _ =>
          emit (k0_off5 c (BitVec.ofNat 32 (64 * j.val))) (k0_off5_inb c j) (k0_off5_packedbf16 c j) (sval a c (lo j)))
        fun _ => iprop(R1 a K c (j.val + 1) ∗ (credOf c (xsS j) ∗ credOf c (zsS j))) := by
    unfold R1
    iintro ⟨HO, #HC, Hout, ⟨%Y, Hg⟩, Hx, Hz⟩
    iapply (next (step_load c gsend ![j.val, 0, 0] (inb4 j) (View.loadsAt_vmem h_S1x64x1024) fullShare Y)) $$ [Hg]; · iexact Hg
    iintro %v' ⟨Hg, -⟩
    ihave Hg := (any_of c (slot4 gsend j) Y) $$ Hg
    iapply (next (step_store c gsend ![j.val, 0, 0] (inb4 j) (rnd (sval a c (lo j))) _ _)) $$ [Hg]; · iexact Hg
    iintro %_ Hg
    rw [hO]
    iapply (next (do_sendXZ a K c j (OX c (j.val + 1) + OZ c (j.val + 1)))) $$ [HO Hg Hx Hz]
    · isplitr; · iexact HC
      isplitl [HO]; · iexact HO
      isplitl [Hg]; · iexact Hg
      isplitl [Hx]; · iexact Hx
      iexact Hz
    iintro %_ ⟨HO, Hc⟩
    iapply (tail (step_emit a c (own1 j) (S1 j.val) _ (orow_own1 c j) (k0_off5_inb c j) (k0_off5_packedbf16 c j) _ (osum_own1 a c j).symm)) $$ [Hout]; · iexact Hout
    rw [S1_step]
    iintro %_ Hout
    isplitr [Hc]
    · isplitr; · iexact HC
      isplitl [HO]; · iexact HO
      iexact Hout
    iexact Hc
  unfold firstA firstB first
  rw [show R1 a K c j.val = iprop(Ctx a K ∗ owesSome c (OX c j.val + OZ c j.val) ∗ weights a c ∗ outAt a c (S1 j.val)) from rfl]
  iintro ⟨⟨#HC, HO, Hout⟩, Hp, Hg, Hx, Hz⟩
  iapply (tail (do_pick a K c (lo j) (OX c j.val + OZ c j.val) ((OX_above c _).add (OZ_above c _)) _ _ _ cont)) $$ [HO Hout Hp Hg Hx Hz]
  · isplitr; · iexact HC
    isplitl [HO]; · iexact HO
    isplitl [Hp]; · iexact Hp
    isplitr; · iexact HC
    isplitl [Hout]; · iexact Hout
    isplitl [Hg]; · iexact Hg
    isplitl [Hx]; · iexact Hx
    iexact Hz
  iintro %_ ⟨⟨HR, Hc⟩, Hb⟩
  isplitl [HR]; · iexact HR
  isplitl [Hc]; · iexact Hc
  iexact Hb

/-- Taking a neighbour's block and writing it. -/
theorem do_take (c : Dev nD) (m : Memref sig .tc .vmem S4x64x1024 .bf16) (hm : m.IsWhole) (sem : DmaSem sig) (j : Fin 4) (s : Fin 16) (S : Finset (Fin 16))
    (hi : kindOf sem ≠ .idle) (hN : (slot4 m j).view.dmaCredit = amt (kindOf sem)) (Y : FVec F S64x1024 .bf16)
    (hp : pay a c (kindOf sem) = owns (c : Thread nD τ) (slot4 m j) fullShare Y)
    (off : Fin 2 → ℕ) (ho : off = orow c s) (inb : ∀ i, off i + S64x1024.size i ≤ S1024x1024.size i)
    (packed : (Rect.unit (s := S1024x1024) off S64x1024.size inb).PackedRows (EltTy.packing .bf16)) (hv : wid Y = osum a c s) :
    iprop(Ctx a K ∗ owesSome c 0 ∗ (credOf c sem ∗ atStart c sem) ∗ weights a c ∗ outAt a c S)
      ⊢ Wp c (take m hm sem j fun x => emit off inb packed x)
        fun _ => iprop(owesSome c 0 ∗ (atEnd c sem ∗ anyOwn c (slot4 m j)) ∗ weights a c ∗ outAt a c (insert s S)) := by
  unfold take
  iintro ⟨#HC, HO, ⟨Hc, Hat⟩, Hout⟩
  iapply (next (step_wait a K c 0 hi hN (Above.zero _))) $$ [HO Hc Hat]
  · isplitr; · iexact HC
    isplitl [Hc]; · iexact Hc
    isplitl [HO]; · iexact HO
    iexact Hat
  iintro %_ ⟨HO, Hat, Hp⟩
  ihave Hy := (Entails.of_eq hp) $$ Hp
  iapply (next (step_load c m ![j.val, 0, 0] (inb4 j) (View.loadsAt_vmem h_S1x64x1024) fullShare Y)) $$ [Hy]; · iexact Hy
  iintro %r ⟨Hy, %hr⟩
  rw [hr]
  iapply (tail (step_emit a c s S off ho inb packed (wid Y) hv)) $$ [Hout]; · iexact Hout
  iintro %_ Hout
  isplitl [HO]; · iexact HO
  isplitr [Hout]
  · isplitl [Hat]; · iexact Hat
    iapply (any_of c (slot4 m j) Y); iexact Hy
  iexact Hout

def R2 (c : Dev nD) (n : ℕ) : sProp 𝕄 := iprop(Ctx a K ∗ owesSome c 0 ∗ weights a c ∗ outAt a c (S2 n))
def secondA (c : Dev nD) (j : Fin 4) : sProp 𝕄 :=
  iprop(pickA c (Fin.natAdd 4 j) ∗ (credOf c (xsR j) ∗ atStart c (xsR j)) ∗ (credOf c (zsR j) ∗ atStart c (zsR j)))
def secondB (c : Dev nD) (j : Fin 4) : sProp 𝕄 :=
  iprop(pickB c (Fin.natAdd 4 j) ∗ (atEnd c (xsR j) ∗ anyOwn c (slot4 xrecv j)) ∗ (atEnd c (zsR j) ∗ anyOwn c (slot4 zrecv j)))

/-- A step of the second loop: a sum written, and two blocks from neighbours awaited and written. -/
theorem do_second (c : Dev nD) (j : Fin 4) :
    iprop(R2 a K c j.val ∗ secondA c j) ⊢ Wp c (second c j) fun _ => iprop(R2 a K c (j.val + 1) ∗ secondB c j) := by
  have cont : iprop(owesSome c 0 ∗ (weights a c ∗ outAt a c (S2 j.val)))
      ⊢ Wp c (emit (k0_off6 c (BitVec.ofNat 32 (64 * j.val))) (k0_off6_inb c j) (k0_off6_packedbf16 c j) (sval a c (Fin.natAdd 4 j)))
        fun _ => iprop(owesSome c 0 ∗ (weights a c ∗ outAt a c (insert (own2 j) (S2 j.val)))) := by
    iintro ⟨HO, Hout⟩
    iapply (tail (step_emit a c (own2 j) (S2 j.val) _ (orow_own2 c j) (k0_off6_inb c j) (k0_off6_packedbf16 c j) _ (osum_own2 a c j).symm)) $$ [Hout]; · iexact Hout
    iintro %_ Hout
    isplitl [HO]; · iexact HO
    iexact Hout
  unfold R2 secondA secondB second
  iintro ⟨⟨#HC, HO, Hout⟩, Hp, Hx, Hz⟩
  iapply (next (do_pick a K c (Fin.natAdd 4 j) 0 (Above.zero _) _ _ _ cont)) $$ [HO Hout Hp]
  · isplitr; · iexact HC
    isplitl [HO]; · iexact HO
    isplitl [Hp]; · iexact Hp
    iexact Hout
  iintro %_ ⟨⟨HO, Hout⟩, Hb⟩
  iapply (next (do_take a K c xrecv _ (xsR j) j (ofX j) _ (live_of (kind_xsR j) (by simp)) (credit_x j) (gval a (xn c) j) (pay_of a c (kind_xsR j))
    _ (orow_ofX c j) (k0_off7_inb c j) (k0_off7_packedbf16 c j) (osum_ofX a c j).symm)) $$ [HO Hx Hout]
  · isplitr; · iexact HC
    isplitl [HO]; · iexact HO
    isplitl [Hx]; · iexact Hx
    iexact Hout
  iintro %_ ⟨HO, Hx, Hout⟩
  iapply (tail (do_take a K c zrecv _ (zsR j) j (ofZ j) _ (live_of (kind_zsR j) (by simp)) (credit_z j) (gval a (zn c) j) (pay_of a c (kind_zsR j))
    _ (orow_ofZ c j) (k0_off8_inb c j) (k0_off8_packedbf16 c j) (osum_ofZ a c j).symm)) $$ [HO Hz Hout]
  · isplitr; · iexact HC
    isplitl [HO]; · iexact HO
    isplitl [Hz]; · iexact Hz
    iexact Hout
  rw [S2_step]
  iintro %_ ⟨HO, Hz, Hout⟩
  isplitl [HO Hout]
  · isplitr; · iexact HC
    isplitl [HO]; · iexact HO
    iexact Hout
  isplitl [Hb]; · iexact Hb
  isplitl [Hx]; · iexact Hx
  iexact Hz

/-- Waiting for a send to leave. -/
theorem do_leave (c : Dev nD) {sp sp' : Space} {s : Shape} {e : EltTy} {i : DmaSem sig} {src : Memref sig .tc sp s e} {dst : Memref sig .tc sp' s e}
    {h1 : src.view.WordExact} {h2 : dst.view.WordExact} (hi : kindOf i ≠ .idle) (hN : dst.view.dmaCredit = amt (kindOf i)) :
    iprop((Ctx a K ∗ owesSome c 0) ∗ (credOf c i ∗ atStart c i))
      ⊢ Wp c (Prog.lift (.waitDma2 i src dst h1 h2)) fun _ => iprop((Ctx a K ∗ owesSome c 0) ∗ (atEnd c i ∗ pay a c (kindOf i))) := by
  iintro ⟨⟨#HC, HO⟩, Hc, Hat⟩
  iapply (tail (step_wait a K c 0 hi hN (Above.zero _))) $$ [HO Hc Hat]
  · isplitr; · iexact HC
    isplitl [Hc]; · iexact Hc
    isplitl [HO]; · iexact HO
    iexact Hat
  iintro %_ ⟨HO, Hat, Hp⟩
  isplitl [HO]
  · isplitr; · iexact HC
    iexact HO
  isplitl [Hat]; · iexact Hat
  iexact Hp

end Cert.KernelIdeal.Run
-- ==== Proof.Body.lean ====
/-
  The whole body of a device: from the buffers, the tokens of its copies and its positions at its
  cells, to the result written and every cell passed.
-/
module

public import proofs.«01_k».proof.Proof.Phases

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

variable (K : GSem nD τ sig → ℕ)

/-- One assertion for every member of a family. -/
abbrev each {n : ℕ} (Φ : Fin n → sProp 𝕄) : sProp 𝕄 := bigSep Finset.univ Φ

/-- Two families side by side are one family of pairs, -/
theorem pair_up {n : ℕ} (Φ Ψ : Fin n → sProp 𝕄) : iprop(each Φ ∗ each Ψ) ⊢ each fun i => iprop(Φ i ∗ Ψ i) :=
  Entails.of_eq (bigSep_sep' _ _ _).symm
/-- and a family of pairs is two families. -/
theorem un_pair {n : ℕ} (Φ Ψ : Fin n → sProp 𝕄) : (each fun i => iprop(Φ i ∗ Ψ i)) ⊢ iprop(each Φ ∗ each Ψ) :=
  Entails.of_eq (bigSep_sep' _ _ _)
/-- A family follows from another member by member. -/
theorem each_mono {n : ℕ} {Φ Ψ : Fin n → sProp 𝕄} (h : ∀ i, Φ i ⊢ Ψ i) : each Φ ⊢ each Ψ := bigSep_mono fun i _ => h i

/-- A family over eight blocks: over the first four and the last four. -/
theorem each_eight (Φ : Fin 8 → sProp 𝕄) : each Φ = iprop((each fun j : Fin 4 => Φ (lo j)) ∗ each fun j : Fin 4 => Φ (Fin.natAdd 4 j)) := by
  unfold each
  rw [bigSep_univ_equiv (finSumFinEquiv (m := 4) (n := 4)) Φ, bigSep_univ_sum]
  rfl

/-- All a device owes at the start: three signals and its sixteen sends. -/
def O₀ (c : Dev nD) : CellTallies nD τ sig Unit :=
  OX c 0 + OZ c 0 + OY c 0 + tallyAt (barCell (zn c)) () 1 + tallyAt (barCell (yn c)) () 1 + tallyAt (barCell (xn c)) () 1

/-- A signal still owed to a barrier is owed above the lowest level. -/
theorem bar_above (c : Dev nD) : Above 0 (tallyAt (barCell c) () 1) := Above.single _ _ _ (by decide : 0 < 1)

/-- What a device has as its body starts. -/
def atFirst (c : Dev nD) : sProp 𝕄 :=
  iprop(owesSome c (O₀ c) ∗ argHeld a c ∗ outAt a c ∅
    ∗ ((∃ q, owns (c : Thread nD τ) gsrc q (a.2 c)) ∗ anyOwn c gvmem ∗ ready c gsem ∗ atStart c gsem)
    ∗ (dutyTok ER (barCell (xn c)) 0 0 ∗ reached ER (barCell (xn c)) 0 ∗ barPay (xn c) 0)
    ∗ (dutyTok ER (barCell (yn c)) 0 1 ∗ reached ER (barCell (yn c)) 0 ∗ barPay (yn c) 1)
    ∗ (dutyTok ER (barCell (zn c)) 0 2 ∗ reached ER (barCell (zn c)) 0 ∗ barPay (zn c) 2)
    ∗ (cred (tallyAt (barCell c) () 3) ∗ atPos ER (barCell c) 0 ∅ 0)
    ∗ each (fetchA c)
    ∗ (each fun k => iprop(atStart c (cps k) ∗ anyOwn c (slot8 ysend k)))
    ∗ (each fun k => iprop(ready c (ysS k) ∗ tokOf (yn c) (ysR k)))
    ∗ (each fun k => iprop(credOf c (ysR k) ∗ atStart c (ysR k)))
    ∗ (each fun k => atStart c (cpl k))
    ∗ (each fun j => anyOwn c (slot4 gsend j))
    ∗ (each fun j => iprop(ready c (xsS j) ∗ tokOf (xn c) (xsR j)))
    ∗ (each fun j => iprop(ready c (zsS j) ∗ tokOf (zn c) (zsR j)))
    ∗ (each fun j => iprop(credOf c (xsR j) ∗ atStart c (xsR j)))
    ∗ (each fun j => iprop(credOf c (zsR j) ∗ atStart c (zsR j)))
    ∗ (each fun k => atStart c (ysS k)) ∗ (each fun j => atStart c (xsS j)) ∗ each fun j => atStart c (zsS j))

/-- What it has as its body ends. -/
def atLast (c : Dev nD) : sProp 𝕄 :=
  iprop(owesSome c 0 ∗ weights a c ∗ outAt a c Finset.univ ∗ atEnd c gsem ∗ atPos ER (barCell c) 1 ∅ 0
    ∗ each (stageB c) ∗ each (pickB c)
    ∗ (each fun k => iprop(atEnd c (ysS k) ∗ anyOwn c (slot8 ysend k)))
    ∗ (each fun j => iprop(atEnd c (xsR j) ∗ anyOwn c (slot4 xrecv j)))
    ∗ (each fun j => iprop(atEnd c (zsR j) ∗ anyOwn c (slot4 zrecv j)))
    ∗ (each fun j => iprop(atEnd c (xsS j) ∗ owns (c : Thread nD τ) (slot4 gsend j) fullShare.left (gval a c j)))
    ∗ (each fun j => iprop(atEnd c (zsS j) ∗ owns (c : Thread nD τ) (slot4 gsend j) fullShare.right (gval a c j))))

/-- The blocks staged and sent one after the other. -/
def stagedA (c : Dev nD) (k : Fin 8) : sProp 𝕄 := iprop(stageA c k ∗ sendA c k)
def stagedB (c : Dev nD) (k : Fin 8) : sProp 𝕄 := iprop(stageB c k ∗ credOf c (ysS k))

/-- One block after the first: staged, and sent to the y neighbour. -/
theorem do_staged (c : Dev nD) (k : Fin 7) :
    iprop((Ctx a K ∗ owesSome c (OX c 0 + OZ c 0 + OY c (k.val + 1))) ∗ stagedA c k.succ)
      ⊢ Wp c (stage c k.succ >>= fun _ => sendY c k.succ)
        fun _ => iprop((Ctx a K ∗ owesSome c (OX c 0 + OZ c 0 + OY c (k.val + 1 + 1))) ∗ stagedB c k.succ) := by
  have hO : OX c 0 + OZ c 0 + OY c (k.val + 1) = (OX c 0 + OZ c 0 + OY c (k.val + 1 + 1)) + owedAt (yn c) (ysR k.succ) := by
    have h := from_step (fun k => owedAt (yn c) (ysR k)) k.succ
    exact (congrArg (fun z => OX c 0 + OZ c 0 + z) h).trans (add_assoc _ _ _).symm
  unfold stagedA stagedB
  iintro ⟨⟨#HC, HO⟩, HA, HB⟩
  iapply (next (do_stage a K c k.succ _ ((sends_above c (k.val + 1)).mono (by decide)))) $$ [HO HA]
  · isplitr; · iexact HC
    isplitl [HO]; · iexact HO
    iexact HA
  iintro %_ ⟨HO, Hs, Hy⟩
  rw [hO]
  iapply (tail (do_sendY a K c k.succ (OX c 0 + OZ c 0 + OY c (k.val + 1 + 1)))) $$ [HO Hy HB]
  · isplitr; · iexact HC
    isplitl [HO]; · iexact HO
    isplitl [Hy]; · iexact Hy
    iexact HB
  iintro %_ ⟨Hc, HO⟩
  isplitl [HO]
  · isplitr; · iexact HC
    iexact HO
  isplitl [Hs]; · iexact Hs
  iexact Hc

/-- The fetches, the weights' copy, and the three signals. -/
def opening (c : Dev nD) : Pr F PUnit :=
  loop 8 (fetch c) >>= fun _ =>
  Prog.lift (.enqueueDma gsrc (.here gvmem) (.dma gsem) (Memref.isWhole_whole _).wordExact (Memref.isWhole_whole _).wordExact ⟨Or.inl rfl, trivial⟩) >>= fun _ =>
  semSignalWord (⟨k0_dev1 c, k0_dev1_lt c⟩ : Dev nD) barS 1#32 >>= fun _ =>
  semSignalWord (⟨k0_dev2 c, k0_dev2_lt c⟩ : Dev nD) barS 1#32 >>= fun _ =>
  semSignalWord (⟨k0_dev3 c, k0_dev3_lt c⟩ : Dev nD) barS 1#32

/-- The opening starts every local copy and hands the slots sends will land in to the three neighbours. -/
theorem do_opening (c : Dev nD) :
    iprop(Ctx a K ∗ owesSome c (O₀ c) ∗ argHeld a c ∗ ((∃ q, owns (c : Thread nD τ) gsrc q (a.2 c)) ∗ anyOwn c gvmem ∗ ready c gsem)
        ∗ (dutyTok ER (barCell (xn c)) 0 0 ∗ reached ER (barCell (xn c)) 0 ∗ barPay (xn c) 0)
        ∗ (dutyTok ER (barCell (yn c)) 0 1 ∗ reached ER (barCell (yn c)) 0 ∗ barPay (yn c) 1)
        ∗ (dutyTok ER (barCell (zn c)) 0 2 ∗ reached ER (barCell (zn c)) 0 ∗ barPay (zn c) 2)
        ∗ each (fetchA c))
      ⊢ Wp c (opening c) fun _ => iprop(owesSome c (OX c 0 + OZ c 0 + OY c 0) ∗ each (fetchB c) ∗ credOf c gsem) := by
  unfold opening
  iintro ⟨#HC, HO, Ha, ⟨⟨%q, Hg⟩, Hv, Ht, #Hr⟩, ⟨Hx, #Hrx, Hpx⟩, ⟨Hy, #Hry, Hpy⟩, ⟨Hz, #Hrz, Hpz⟩, Hf⟩
  iapply (next (loop_rule 8 (fetch c) (fetchA c) (fetchB c) (fun _ => iprop(Ctx a K ∗ argHeld a c)) (do_fetch a K c))) $$ [Ha Hf]
  · isplitl [Ha]
    · isplitr; · iexact HC
      iexact Ha
    iexact Hf
  iintro %_ ⟨-, Hf⟩
  iapply (next (step_copy a K c q (a.2 c) (live_of kind_gam (by decide)) (by rw [kind_gam]; rfl) (by rw [kind_gam]; exact .rfl))) $$ [Hg Hv Ht]
  · isplitr; · iexact HC
    isplitl [Hg]; · iexact Hg
    isplitl [Hv]; · iexact Hv
    isplitl [Ht]; · iexact Ht
    iexact Hr
  iintro %_ Hc
  unfold O₀
  iapply (next (step_signal a K c (xn c) _ (dev1_eq c) 0 _)) $$ [HO Hx Hpx]
  · isplitr; · iexact HC
    isplitl [HO]; · iexact HO
    isplitl [Hx]; · iexact Hx
    isplitl [Hpx]; · iexact Hpx
    iexact Hrx
  iintro %_ HO
  iapply (next (step_signal a K c (yn c) _ (dev2_eq c) 1 _)) $$ [HO Hy Hpy]
  · isplitr; · iexact HC
    isplitl [HO]; · iexact HO
    isplitl [Hy]; · iexact Hy
    isplitl [Hpy]; · iexact Hpy
    iexact Hry
  iintro %_ HO
  iapply (tail (step_signal a K c (zn c) _ (dev3_eq c) 2 _)) $$ [HO Hz Hpz]
  · isplitr; · iexact HC
    isplitl [HO]; · iexact HO
    isplitl [Hz]; · iexact Hz
    isplitl [Hpz]; · iexact Hpz
    iexact Hrz
  iintro %_ HO
  isplitl [HO]; · iexact HO
  isplitl [Hf]; · iexact Hf
  iexact Hc

/-- All blocks staged and sent along y; the barrier is waited for after the first is staged. -/
def sending (c : Dev nD) : Pr F PUnit :=
  stage c 0 >>= fun _ =>
  semWaitWord barS 3#32 >>= fun _ =>
  sendY c 0 >>= fun _ =>
  loop 7 (fun k => stage c k.succ >>= fun _ => sendY c k.succ)

/-- The barrier gives a device its neighbours' slots; by the end all eight blocks are on their way along y. -/
theorem do_sending (c : Dev nD) :
    iprop(Ctx a K ∗ owesSome c (OX c 0 + OZ c 0 + OY c 0) ∗ (cred (tallyAt (barCell c) () 3) ∗ atPos ER (barCell c) 0 ∅ 0)
        ∗ each (stageA c) ∗ (each fun k => iprop(ready c (ysS k) ∗ tokOf (yn c) (ysR k))))
      ⊢ Wp c (sending c) fun _ => iprop(owesSome c (OX c 0 + OZ c 0) ∗ atPos ER (barCell c) 1 ∅ 0 ∗ barPay c 0 ∗ barPay c 2 ∗ each (stagedB c)) := by
  have hsend : iprop((each fun k => iprop(ready c (ysS k) ∗ tokOf (yn c) (ysR k))) ∗ barPay (F := F) c 1) ⊢ each (sendA c) := by
    refine (pair_up _ _).trans (each_mono fun k => ?_)
    unfold sendA
    iintro ⟨⟨H, H'⟩, H''⟩
    isplitl [H]; · iexact H
    isplitl [H']; · iexact H'
    iexact H''
  have hO : OX c 0 + OZ c 0 + OY c 0 = (OX c 0 + OZ c 0 + OY c 1) + owedAt (yn c) (ysR 0) := by
    have h := from_step (fun k => owedAt (yn c) (ysR k)) (0 : Fin 8)
    exact (congrArg (fun z => OX c 0 + OZ c 0 + z) h).trans (add_assoc _ _ _).symm
  have hO8 : OX c 0 + OZ c 0 + OY c 8 = OX c 0 + OZ c 0 := by
    have h := from_end (fun k => owedAt (yn c) (ysR k))
    unfold OY
    rw [h, add_zero]
  unfold sending
  iintro ⟨#HC, HO, ⟨Hcb, Hab⟩, Hst, Htk⟩
  ihave Hst := (Entails.of_eq (bigSep_first 7 (stageA (F := F) c))) $$ Hst
  icases Hst with ⟨Hst0, Hst⟩
  iapply (next (do_stage a K c 0 _ ((sends_above c 0).mono (by decide)))) $$ [HO Hst0]
  · isplitr; · iexact HC
    isplitl [HO]; · iexact HO
    iexact Hst0
  iintro %_ ⟨HO, Hs0, Hy0⟩
  iapply (next (step_barrier a K c _ (sends_above c 0))) $$ [HO Hcb Hab]
  · isplitr; · iexact HC
    isplitl [Hcb]; · iexact Hcb
    isplitl [HO]; · iexact HO
    iexact Hab
  iintro %_ ⟨HO, Hab, Hpx, Hpy, Hpz⟩
  ihave Hsd := hsend $$ [Htk Hpy]
  · isplitl [Htk]; · iexact Htk
    iexact Hpy
  ihave Hsd := (Entails.of_eq (bigSep_first 7 (sendA (F := F) c))) $$ Hsd
  icases Hsd with ⟨Hsd0, Hsd⟩
  rw [hO]
  iapply (next (do_sendY a K c 0 (OX c 0 + OZ c 0 + OY c 1))) $$ [HO Hy0 Hsd0]
  · isplitr; · iexact HC
    isplitl [HO]; · iexact HO
    isplitl [Hy0]; · iexact Hy0
    iexact Hsd0
  iintro %_ ⟨Hc0, HO⟩
  ihave Hall := (pair_up (fun k : Fin 7 => stageA (F := F) c k.succ) (fun k : Fin 7 => sendA (F := F) c k.succ)) $$ [Hst Hsd]
  · isplitl [Hst]; · iexact Hst
    iexact Hsd
  iapply (tail (loop_rule 7 (fun k => stage c k.succ >>= fun _ => sendY c k.succ) (fun k => stagedA c k.succ) (fun k => stagedB c k.succ)
    (fun n => iprop(Ctx a K ∗ owesSome c (OX c 0 + OZ c 0 + OY c (n + 1)))) (do_staged a K c))) $$ [HO Hall]
  · isplitl [HO]
    · isplitr; · iexact HC
      iexact HO
    iexact Hall
  iintro %_ ⟨⟨-, HO⟩, Hall⟩
  ihave HO := (Entails.of_eq (congrArg (owesSome (F := F) c) hO8)) $$ HO
  isplitl [HO]; · iexact HO
  isplitl [Hab]; · iexact Hab
  isplitl [Hpx]; · iexact Hpx
  isplitl [Hpz]; · iexact Hpz
  rw [show each (stagedB (F := F) c) = iprop(stagedB c 0 ∗ each fun k : Fin 7 => stagedB c k.succ) from bigSep_first 7 _]
  isplitl [Hs0 Hc0]
  · unfold stagedB
    isplitl [Hs0]; · iexact Hs0
    iexact Hc0
  iexact Hall

/-- The two loops over the sums. -/
def summing (c : Dev nD) : Pr F PUnit := loop 4 (first c) >>= fun _ => loop 4 (second c)

/-- After the two loops every block of the result is written, nothing is owed, and every landed block was awaited. -/
theorem do_summing (c : Dev nD) :
    iprop(Ctx a K ∗ owesSome c (OX c 0 + OZ c 0) ∗ weights a c ∗ outAt a c ∅ ∗ each (pickA c) ∗ (each fun j => anyOwn c (slot4 gsend j))
        ∗ each (sendXA c) ∗ each (sendZA c)
        ∗ (each fun j => iprop(credOf c (xsR j) ∗ atStart c (xsR j))) ∗ (each fun j => iprop(credOf c (zsR j) ∗ atStart c (zsR j))))
      ⊢ Wp c (summing c) fun _ => iprop(owesSome c 0 ∗ weights a c ∗ outAt a c Finset.univ ∗ each (pickB c)
        ∗ (each fun j => credOf c (xsS j)) ∗ (each fun j => credOf c (zsS j))
        ∗ (each fun j => iprop(atEnd c (xsR j) ∗ anyOwn c (slot4 xrecv j)))
        ∗ (each fun j => iprop(atEnd c (zsR j) ∗ anyOwn c (slot4 zrecv j)))) := by
  have hO4 : OX c 4 + OZ c 4 = 0 := by
    unfold OX OZ
    rw [from_end (fun j => owedAt (xn c) (xsR j)), from_end (fun j => owedAt (zn c) (zsR j)), add_zero]
  unfold summing
  iintro ⟨#HC, HO, Hw, Ho, Hp, Hg, Hx, Hz, Hrx, Hrz⟩
  ihave Hp := (Entails.of_eq (each_eight (pickA (F := F) c))) $$ Hp
  icases Hp with ⟨Hp, Hp'⟩
  ihave H := (pair_up (sendXA (F := F) c) (sendZA c)) $$ [Hx Hz]
  · isplitl [Hx]; · iexact Hx
    iexact Hz
  ihave H := (pair_up (fun j => anyOwn (F := F) c (slot4 gsend j)) _) $$ [Hg H]
  · isplitl [Hg]; · iexact Hg
    iexact H
  ihave H := (pair_up (fun j => pickA (F := F) c (lo j)) _) $$ [Hp H]
  · isplitl [Hp]; · iexact Hp
    iexact H
  iapply (next (loop_rule 4 (first c) (firstA c) (firstB c) (R1 a K c) (do_first a K c))) $$ [HO Hw Ho H]
  · isplitl [HO Hw Ho]
    · unfold R1
      rw [S1_zero]
      isplitr; · iexact HC
      isplitl [HO]; · iexact HO
      isplitl [Hw]; · iexact Hw
      iexact Ho
    iexact H
  unfold R1
  rw [hO4, ← S2_zero]
  iintro %_ ⟨⟨-, HO, Hw, Ho⟩, HB⟩
  ihave HB := (show each (firstB (F := F) c) ⊢ _ from un_pair (fun j => iprop(credOf (F := F) c (xsS j) ∗ credOf c (zsS j))) (fun j => pickB c (lo j))) $$ HB
  icases HB with ⟨HB, Hq⟩
  ihave HB := (un_pair (fun j => credOf (F := F) c (xsS j)) (fun j => credOf c (zsS j))) $$ HB
  icases HB with ⟨Hcx, Hcz⟩
  ihave H := (pair_up (fun j => iprop(credOf (F := F) c (xsR j) ∗ atStart c (xsR j))) (fun j => iprop(credOf c (zsR j) ∗ atStart c (zsR j)))) $$ [Hrx Hrz]
  · isplitl [Hrx]; · iexact Hrx
    iexact Hrz
  ihave H := (pair_up (fun j : Fin 4 => pickA (F := F) c (Fin.natAdd 4 j)) _) $$ [Hp' H]
  · isplitl [Hp']; · iexact Hp'
    iexact H
  iapply (tail (loop_rule 4 (second c) (secondA c) (secondB c) (R2 a K c) (do_second a K c))) $$ [HO Hw Ho H]
  · isplitl [HO Hw Ho]
    · unfold R2
      isplitr; · iexact HC
      isplitl [HO]; · iexact HO
      isplitl [Hw]; · iexact Hw
      iexact Ho
    iexact H
  unfold R2
  rw [S2_four]
  iintro %_ ⟨⟨-, HO, Hw, Ho⟩, HB⟩
  ihave HB := (show each (secondB (F := F) c) ⊢ _ from un_pair (fun j : Fin 4 => pickB (F := F) c (Fin.natAdd 4 j)) (fun j => iprop((atEnd c (xsR j) ∗ anyOwn c (slot4 xrecv j)) ∗ (atEnd c (zsR j) ∗ anyOwn c (slot4 zrecv j))))) $$ HB
  icases HB with ⟨Hq', HB⟩
  ihave HB := (un_pair (fun j => iprop(atEnd (F := F) c (xsR j) ∗ anyOwn c (slot4 xrecv j))) (fun j => iprop(atEnd c (zsR j) ∗ anyOwn c (slot4 zrecv j)))) $$ HB
  icases HB with ⟨Hx, Hz⟩
  rw [each_eight (pickB (F := F) c)]
  isplitl [HO]; · iexact HO
  isplitl [Hw]; · iexact Hw
  isplitl [Ho]; · iexact Ho
  isplitl [Hq Hq']
  · isplitl [Hq]; · iexact Hq
    iexact Hq'
  isplitl [Hcx]; · iexact Hcx
  isplitl [Hcz]; · iexact Hcz
  isplitl [Hx]; · iexact Hx
  iexact Hz

/-- The waits for the sends to leave. -/
def leaving : Pr F PUnit :=
  loop 8 leave8 >>= fun _ =>
  loop 4 (leave4 xrecv (Memref.isWhole_whole _) xsS) >>= fun _ =>
  loop 4 (leave4 zrecv (Memref.isWhole_whole _) zsS)

/-- The wait for a block to leave along y gives its staging slot back. -/
theorem do_leave8 (c : Dev nD) (k : Fin 8) :
    iprop((Ctx a K ∗ owesSome c 0) ∗ (credOf c (ysS k) ∗ atStart c (ysS k)))
      ⊢ Wp c (leave8 k) fun _ => iprop((Ctx a K ∗ owesSome c 0) ∗ (atEnd c (ysS k) ∗ pay a c (.ysS k))) := by
  rw [← pay_of a c (kind_ysS k)]
  exact do_leave a K c (live_of (kind_ysS k) (by simp)) (credit_ys k)
/-- The wait for a block to leave along x gives back the half of its slot that was lent. -/
theorem do_leaveX (c : Dev nD) (j : Fin 4) :
    iprop((Ctx a K ∗ owesSome c 0) ∗ (credOf c (xsS j) ∗ atStart c (xsS j)))
      ⊢ Wp c (leave4 xrecv (Memref.isWhole_whole _) xsS j) fun _ => iprop((Ctx a K ∗ owesSome c 0) ∗ (atEnd c (xsS j) ∗ pay a c (.xsS j))) := by
  rw [← pay_of a c (kind_xsS j)]
  exact do_leave a K c (live_of (kind_xsS j) (by simp)) (credit_gx j)
/-- The wait for a block to leave along z gives back the other half. -/
theorem do_leaveZ (c : Dev nD) (j : Fin 4) :
    iprop((Ctx a K ∗ owesSome c 0) ∗ (credOf c (zsS j) ∗ atStart c (zsS j)))
      ⊢ Wp c (leave4 zrecv (Memref.isWhole_whole _) zsS j) fun _ => iprop((Ctx a K ∗ owesSome c 0) ∗ (atEnd c (zsS j) ∗ pay a c (.zsS j))) := by
  rw [← pay_of a c (kind_zsS j)]
  exact do_leave a K c (live_of (kind_zsS j) (by simp)) (credit_gz j)

/-- All sixteen sends have left, and what they read is in hand again. -/
theorem do_leaving (c : Dev nD) :
    iprop(Ctx a K ∗ owesSome c 0 ∗ (each fun k => iprop(credOf c (ysS k) ∗ atStart c (ysS k)))
        ∗ (each fun j => iprop(credOf c (xsS j) ∗ atStart c (xsS j))) ∗ (each fun j => iprop(credOf c (zsS j) ∗ atStart c (zsS j))))
      ⊢ Wp c leaving fun _ => iprop(owesSome c 0 ∗ (each fun k => iprop(atEnd c (ysS k) ∗ pay a c (.ysS k)))
        ∗ (each fun j => iprop(atEnd c (xsS j) ∗ pay a c (.xsS j))) ∗ (each fun j => iprop(atEnd c (zsS j) ∗ pay a c (.zsS j)))) := by
  unfold leaving
  iintro ⟨#HC, HO, Hy, Hx, Hz⟩
  iapply (next (loop_rule 8 leave8 _ _ (fun _ => iprop(Ctx a K ∗ owesSome c 0)) (do_leave8 a K c))) $$ [HO Hy]
  · isplitl [HO]
    · isplitr; · iexact HC
      iexact HO
    iexact Hy
  iintro %_ ⟨HR, Hy⟩
  iapply (next (loop_rule 4 _ _ _ (fun _ => iprop(Ctx a K ∗ owesSome c 0)) (do_leaveX a K c))) $$ [HR Hx]
  · isplitl [HR]; · iexact HR
    iexact Hx
  iintro %_ ⟨HR, Hx⟩
  iapply (tail (loop_rule 4 _ _ _ (fun _ => iprop(Ctx a K ∗ owesSome c 0)) (do_leaveZ a K c))) $$ [HR Hz]
  · isplitl [HR]; · iexact HR
    iexact Hz
  iintro %_ ⟨⟨-, HO⟩, Hz⟩
  isplitl [HO]; · iexact HO
  isplitl [Hy]; · iexact Hy
  isplitl [Hx]; · iexact Hx
  iexact Hz

/-- The body in its four parts. -/
def parts (c : Dev nD) : Pr F PUnit :=
  opening c >>= fun _ =>
  sending c >>= fun _ =>
  Prog.lift (.waitDma2 gsem gsrc gvmem (Memref.isWhole_whole _).wordExact (Memref.isWhole_whole _).wordExact) >>= fun _ =>
  summing c >>= fun _ =>
  leaving

/-- The body is its four parts. -/
theorem prog_parts (c : Dev nD) : prog (F := F) c = parts c := by
  unfold prog parts opening sending summing leaving
  simp only [bind_assoc]

/-- The whole body: from what a device has at its start to what it has at its end. -/
theorem do_parts (c : Dev nD) : iprop(Ctx a K ∗ atFirst a c) ⊢ Wp c (parts c) fun _ => atLast a c := by
  unfold atFirst parts
  iintro ⟨#HC, HO, Ha, Ho, ⟨Hg, Hv, Hr, Hag⟩, Hx, Hy, Hz, Hb, Hf, Hst, Hty, Hry, Hal, Hgs, Htx, Htz, Hrx, Hrz, Hay, Hax, Haz⟩
  iapply (next (do_opening a K c)) $$ [HO Ha Hg Hv Hr Hx Hy Hz Hf]
  · isplitr; · iexact HC
    isplitl [HO]; · iexact HO
    isplitl [Ha]; · iexact Ha
    isplitl [Hg Hv Hr]
    · isplitl [Hg]; · iexact Hg
      isplitl [Hv]; · iexact Hv
      iexact Hr
    isplitl [Hx]; · iexact Hx
    isplitl [Hy]; · iexact Hy
    isplitl [Hz]; · iexact Hz
    iexact Hf
  iintro %_ ⟨HO, Hf, Hcg⟩
  ihave Hf := (show each (fetchB (F := F) c) ⊢ _ from un_pair (fun k => credOf (F := F) c (cpl k)) (fun k => credOf c (cps k))) $$ Hf
  icases Hf with ⟨Hcl, Hcs⟩
  ihave Hst := (pair_up (fun k => credOf (F := F) c (cps k)) _) $$ [Hcs Hst]
  · isplitl [Hcs]; · iexact Hcs
    iexact Hst
  iapply (next (do_sending a K c)) $$ [HO Hb Hst Hty]
  · isplitr; · iexact HC
    isplitl [HO]; · iexact HO
    isplitl [Hb]; · iexact Hb
    isplitl [Hst]; · iexact Hst
    iexact Hty
  iintro %_ ⟨HO, Hab, Hpx, Hpz, Hsb⟩
  ihave Hsb := (show each (stagedB (F := F) c) ⊢ _ from un_pair (stageB (F := F) c) (fun k => credOf c (ysS k))) $$ Hsb
  icases Hsb with ⟨Hsb, Hcy⟩
  iapply (next (step_wait a K c _ (live_of kind_gam (by decide)) (by rw [kind_gam]; rfl)
    (above_of kind_gam (Nat.zero_le _) ((OX_above c 0).add (OZ_above c 0))))) $$ [HO Hcg Hag]
  · isplitr; · iexact HC
    isplitl [Hcg]; · iexact Hcg
    isplitl [HO]; · iexact HO
    iexact Hag
  iintro %_ ⟨HO, Hag, Hw⟩
  ihave Hw := (show pay a c (kindOf gsem) ⊢ weights a c from (Entails.of_eq (pay_of a c kind_gam)).trans .rfl) $$ Hw
  ihave Hcl := (pair_up (fun k => credOf (F := F) c (cpl k)) (fun k => atStart c (cpl k))) $$ [Hcl Hal]
  · isplitl [Hcl]; · iexact Hcl
    iexact Hal
  ihave Hp := (pair_up (fun k => iprop(credOf (F := F) c (ysR k) ∗ atStart c (ysR k))) (fun k => iprop(credOf c (cpl k) ∗ atStart c (cpl k)))) $$ [Hry Hcl]
  · isplitl [Hry]; · iexact Hry
    iexact Hcl
  have hx : iprop((each fun j => iprop(ready c (xsS j) ∗ tokOf (xn c) (xsR j))) ∗ barPay (F := F) c 0) ⊢ each (sendXA c) := by
    refine (pair_up _ _).trans (each_mono fun k => ?_)
    unfold sendXA
    iintro ⟨⟨H, H'⟩, H''⟩
    isplitl [H]; · iexact H
    isplitl [H']; · iexact H'
    iexact H''
  have hz : iprop((each fun j => iprop(ready c (zsS j) ∗ tokOf (zn c) (zsR j))) ∗ barPay (F := F) c 2) ⊢ each (sendZA c) := by
    refine (pair_up _ _).trans (each_mono fun k => ?_)
    unfold sendZA
    iintro ⟨⟨H, H'⟩, H''⟩
    isplitl [H]; · iexact H
    isplitl [H']; · iexact H'
    iexact H''
  ihave Hsx := hx $$ [Htx Hpx]
  · isplitl [Htx]; · iexact Htx
    iexact Hpx
  ihave Hsz := hz $$ [Htz Hpz]
  · isplitl [Htz]; · iexact Htz
    iexact Hpz
  iapply (next (do_summing a K c)) $$ [HO Hw Ho Hp Hgs Hsx Hsz Hrx Hrz]
  · isplitr; · iexact HC
    isplitl [HO]; · iexact HO
    isplitl [Hw]; · iexact Hw
    isplitl [Ho]; · iexact Ho
    isplitl [Hp]; · iexact Hp
    isplitl [Hgs]; · iexact Hgs
    isplitl [Hsx]; · iexact Hsx
    isplitl [Hsz]; · iexact Hsz
    isplitl [Hrx]; · iexact Hrx
    iexact Hrz
  iintro %_ ⟨HO, Hw, Ho, Hp, Hcx, Hcz, Hrx, Hrz⟩
  ihave Hy := (pair_up (fun k => credOf (F := F) c (ysS k)) (fun k => atStart c (ysS k))) $$ [Hcy Hay]
  · isplitl [Hcy]; · iexact Hcy
    iexact Hay
  ihave Hx := (pair_up (fun j => credOf (F := F) c (xsS j)) (fun j => atStart c (xsS j))) $$ [Hcx Hax]
  · isplitl [Hcx]; · iexact Hcx
    iexact Hax
  ihave Hz := (pair_up (fun j => credOf (F := F) c (zsS j)) (fun j => atStart c (zsS j))) $$ [Hcz Haz]
  · isplitl [Hcz]; · iexact Hcz
    iexact Haz
  iapply (tail (do_leaving a K c)) $$ [HO Hy Hx Hz]
  · isplitr; · iexact HC
    isplitl [HO]; · iexact HO
    isplitl [Hy]; · iexact Hy
    isplitl [Hx]; · iexact Hx
    iexact Hz
  have hy : (each fun k => iprop(atEnd c (ysS k) ∗ pay a c (.ysS k))) ⊢ each fun k => iprop(atEnd c (ysS k) ∗ anyOwn c (slot8 ysend k)) :=
    each_mono fun k => by
      unfold pay
      iintro ⟨H, H'⟩
      isplitl [H]; · iexact H
      iapply (any_of c (slot8 ysend k) _); iexact H'
  iintro %_ ⟨HO, Hy, Hx, Hz⟩
  ihave Hy := hy $$ Hy
  unfold atLast
  isplitl [HO]; · iexact HO
  isplitl [Hw]; · iexact Hw
  isplitl [Ho]; · iexact Ho
  isplitl [Hag]; · iexact Hag
  isplitl [Hab]; · iexact Hab
  isplitl [Hsb]; · iexact Hsb
  isplitl [Hp]; · iexact Hp
  isplitl [Hy]; · iexact Hy
  isplitl [Hrx]; · iexact Hrx
  isplitl [Hrz]; · iexact Hrz
  isplitl [Hx]; · iexact Hx
  iexact Hz

/-- The body of a device, from its start to its end. -/
theorem do_body (c : Dev nD) : iprop(Ctx a K ∗ atFirst a c) ⊢ Wp c (prog c) fun _ => atLast a c := by
  rw [prog_parts]; exact do_parts a K c

end Cert.KernelIdeal.Run
-- ==== Proof.Slots.lean ====
/-
  The scratch buffers: whole at the kernel's start and end, slot by slot in between.
-/
module

public import proofs.«01_k».proof.Proof.Body
public import Idealize.ShloMosaic.Lib.Ring

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

/-- A buffer held whole, at contents not said. -/
abbrev wholeOf (c : Dev nD) (b : Ref sig .tc) : sProp 𝕄 :=
  iprop(∃ f : Buf (Elt F) ((c : Thread nD τ).loc b), ((c : Thread nD τ).loc b) ↦{fullShare} f)

/-- The slots of an eight-slot buffer are apart, -/
theorem rect8_disjoint (k k' : Fin 8) (h : k ≠ k') : Disjoint (rect8 k).set (rect8 k').set :=
  Ring.lead_disjoint (s := S8x64x1024) 0 1 (fun k : Fin 8 => ![k.val, 0, 0]) S1x64x1024.size inb8 (fun k => (Nat.one_mul _).symm) rfl k k' h
/-- those of a four-slot buffer too, -/
theorem rect4_disjoint (k k' : Fin 4) (h : k ≠ k') : Disjoint (rect4 k).set (rect4 k').set :=
  Ring.lead_disjoint (s := S4x64x1024) 0 1 (fun k : Fin 4 => ![k.val, 0, 0]) S1x64x1024.size inb4 (fun k => (Nat.one_mul _).symm) rfl k k' h

/-- and they are all of it, -/
theorem rect8_cover : Finset.univ.biUnion (fun k => (rect8 k).set) = Finset.univ :=
  Ring.lead_cover (s := S8x64x1024) 0 1 (fun k : Fin 8 => ![k.val, 0, 0]) S1x64x1024.size inb8 (fun k => (Nat.one_mul _).symm)
    (by decide) rfl (by decide) rfl
/-- in both. -/
theorem rect4_cover : Finset.univ.biUnion (fun k => (rect4 k).set) = Finset.univ :=
  Ring.lead_cover (s := S4x64x1024) 0 1 (fun k : Fin 4 => ![k.val, 0, 0]) S1x64x1024.size inb4 (fun k => (Nat.one_mul _).symm)
    (by decide) rfl (by decide) rfl

/-- There is some value of every type. -/
theorem val_nonempty : ∀ e, Nonempty (Elt F e) := fun e => inferInstance

section slots

variable {n : ℕ} {s s' : Shape} {e : EltTy} (c : Dev nD) (m : Memref sig .tc .vmem s e) (r : Fin n → Rect s) (hr : ∀ k i, (r k).stride i = 1)
  (hq : ∀ k, (r k).shape.Squeezes s')

/-- The elements of slot `k`. -/
def slotSet (k : Fin n) : Finset m.view.ty.Idx := (r k).set.map m.view.emb

/-- The elements of two slots are apart, -/
theorem slotSet_disjoint (hd : ∀ k k', k ≠ k' → Disjoint (r k).set (r k').set) (k k' : Fin n) (h : k ≠ k') :
    Disjoint (slotSet m r k) (slotSet m r k') := (Finset.disjoint_map _).mpr (hd k k' h)

/-- and those of all slots are the buffer's. -/
theorem slotSet_cover (hc : Finset.univ.biUnion (fun k => (r k).set) = Finset.univ) : Finset.univ.biUnion (slotSet m r) = m.view.set := by
  have h : m.view.set = (Finset.univ : Finset s.Idx).map m.view.emb := rfl
  rw [h, ← hc]
  ext i
  simp only [slotSet, Finset.mem_biUnion, Finset.mem_map, Finset.mem_univ, true_and]
  constructor
  · rintro ⟨k, x, hx, rfl⟩; exact ⟨x, ⟨k, hx⟩, rfl⟩
  · rintro ⟨x, ⟨k, hx⟩, rfl⟩; exact ⟨k, x, hx, rfl⟩

/-- A slot at values not said is its elements at contents not said. -/
theorem any_slot (k : Fin n) :
    (anyOwn c ((m.slice (r k) (hr k)).squeeze s' (hq k)) : sProp 𝕄)
      ⊣⊢ iprop(∃ f : Buf (Elt F) (m.view.loc (c : Thread nD τ)), m.view.loc (c : Thread nD τ) ↦[slotSet m r k]{fullShare} f) := by
  have hs : ((m.slice (r k) (hr k)).squeeze s' (hq k)).view.set = slotSet m r k :=
    (View.set_reshape (v := m.view.slice (r k)) (hq k).numel_eq).trans (View.set_slice m.view (r k))
  constructor
  · unfold anyOwn owns
    rw [hs]
    iintro ⟨%Y, %f, -, H⟩
    iexists f; iexact H
  · unfold anyOwn owns
    rw [hs]
    iintro ⟨%f, H⟩
    iexists ((m.slice (r k) (hr k)).squeeze s' (hq k)).view.read (Elt F) f
    iexists f
    isplitr; · ipureintro; rfl
    iexact H

/-- A buffer is its slots, -/
theorem slots_of (hd : ∀ k k', k ≠ k' → Disjoint (r k).set (r k').set) (hc : Finset.univ.biUnion (fun k => (r k).set) = Finset.univ) :
    iprop(∃ f : Buf (Elt F) (m.view.loc (c : Thread nD τ)), m.view.loc (c : Thread nD τ) ↦[m.view.set]{fullShare} f)
      ⊢ (each fun k => anyOwn c ((m.slice (r k) (hr k)).squeeze s' (hq k)) : sProp 𝕄) := by
  have h (f : Buf (Elt F) (m.view.loc (c : Thread nD τ))) : (m.view.loc (c : Thread nD τ) ↦[m.view.set]{fullShare} f : sProp 𝕄)
      ⊢ each fun k => anyOwn c ((m.slice (r k) (hr k)).squeeze s' (hq k)) := by
    rw [Ring.pointsTo_sub_blocks (slotSet m r) (slotSet_disjoint m r hd) m.view.set (slotSet_cover m r hc) f]
    refine each_mono fun k => ?_
    iintro H
    iapply (any_slot c m r hr hq k).2
    iexists f; iexact H
  iintro ⟨%f, H⟩
  iapply (h f); iexact H

/-- and slots are their buffer: -/
theorem of_slots (hd : ∀ k k', k ≠ k' → Disjoint (r k).set (r k').set) (hc : Finset.univ.biUnion (fun k => (r k).set) = Finset.univ) :
    (each fun k => anyOwn c ((m.slice (r k) (hr k)).squeeze s' (hq k)) : sProp 𝕄)
      ⊢ iprop(∃ f : Buf (Elt F) (m.view.loc (c : Thread nD τ)), m.view.loc (c : Thread nD τ) ↦[m.view.set]{fullShare} f) := by
  have f₀ : Buf (Elt F) (m.view.loc (c : Thread nD τ)) := fun _ => (val_nonempty _).some
  have h := Ring.pointsTo_sub_blocks_join_exists (Ix := Unit) (Val := Elt F) (Name := ℕ) (U := UU) (Lvl := ℕ) (q := fullShare) (slotSet m r) (slotSet_disjoint m r hd) m.view.set (slotSet_cover m r hc) f₀
  exact (each_mono fun k => (any_slot c m r hr hq k).1).trans h

end slots

/-- for eight slots, -/
theorem slots8_of (c : Dev nD) {e : EltTy} (m : Memref sig .tc .vmem S8x64x1024 e) :
    iprop(∃ f : Buf (Elt F) (m.view.loc (c : Thread nD τ)), m.view.loc (c : Thread nD τ) ↦[m.view.set]{fullShare} f)
      ⊢ (each fun k => anyOwn c (slot8 m k) : sProp 𝕄) :=
  slots_of c m rect8 (fun _ _ => rfl) (fun _ => squeezes_S1x64x1024_S64x1024) rect8_disjoint rect8_cover
/-- for four, -/
theorem slots4_of (c : Dev nD) {e : EltTy} (m : Memref sig .tc .vmem S4x64x1024 e) :
    iprop(∃ f : Buf (Elt F) (m.view.loc (c : Thread nD τ)), m.view.loc (c : Thread nD τ) ↦[m.view.set]{fullShare} f)
      ⊢ (each fun k => anyOwn c (slot4 m k) : sProp 𝕄) :=
  slots_of c m rect4 (fun _ _ => rfl) (fun _ => squeezes_S1x64x1024_S64x1024) rect4_disjoint rect4_cover
/-- and back for eight -/
theorem of_slots8 (c : Dev nD) {e : EltTy} (m : Memref sig .tc .vmem S8x64x1024 e) :
    (each fun k => anyOwn c (slot8 m k) : sProp 𝕄)
      ⊢ iprop(∃ f : Buf (Elt F) (m.view.loc (c : Thread nD τ)), m.view.loc (c : Thread nD τ) ↦[m.view.set]{fullShare} f) := by
  exact of_slots c m rect8 (fun _ _ => rfl) (fun _ => squeezes_S1x64x1024_S64x1024) rect8_disjoint rect8_cover
/-- and for four. -/
theorem of_slots4 (c : Dev nD) {e : EltTy} (m : Memref sig .tc .vmem S4x64x1024 e) :
    (each fun k => anyOwn c (slot4 m k) : sProp 𝕄)
      ⊢ iprop(∃ f : Buf (Elt F) (m.view.loc (c : Thread nD τ)), m.view.loc (c : Thread nD τ) ↦[m.view.set]{fullShare} f) := by
  exact of_slots c m rect4 (fun _ _ => rfl) (fun _ => squeezes_S1x64x1024_S64x1024) rect4_disjoint rect4_cover

/-- A memref that is a whole buffer, held at contents not said. -/
theorem whole_set (c : Dev nD) (b : Ref sig .tc) :
    (wholeOf c b : sProp 𝕄) = iprop(∃ f : Buf (Elt F) ((Memref.whole b).view.loc (c : Thread nD τ)), (Memref.whole b).view.loc (c : Thread nD τ) ↦[(Memref.whole b).view.set]{fullShare} f) := by
  rw [show (Memref.whole b).view.set = Finset.univ from View.set_whole b]

/-- A change of type along an equation loses nothing. -/
theorem cast_cancel {α β : Type} (h : α = β) {x y : α} (e : _root_.cast h x = _root_.cast h y) : x = y := by subst h; exact e

/-- The two halves of a slot sent to two neighbours are the slot again. -/
theorem halves_any (c : Dev nD) {sp : Space} {s : Shape} {e : EltTy} (m : Memref sig .tc sp s e) (Y : s.Idx → Elt F e) :
    iprop(owns (c : Thread nD τ) m fullShare.left Y ∗ owns (c : Thread nD τ) m fullShare.right Y) ⊢ (anyOwn c m : sProp 𝕄) := by
  unfold anyOwn owns
  iintro ⟨⟨%f, %hf, H⟩, %f', %hf', H'⟩
  have hff : ∀ i ∈ m.view.set, f' i = f i := fun i hi => by
    obtain ⟨z, -, rfl⟩ := Finset.mem_map.mp hi
    have h := congrFun (hf'.trans hf.symm) z
    rw [View.read_apply, View.read_apply] at h
    exact cast_cancel _ h
  ihave H' := (Entails.of_eq (pointsTo_congr (q := fullShare.right) hff)) $$ H'
  iexists Y
  iexists f
  isplitr; · ipureintro; exact hf
  iapply (pointsTo_share (PosShare.mem_left_op_right fullShare)).2
  isplitl [H]; · iexact H
  iexact H'

end Cert.KernelIdeal.Run
-- ==== Proof.Deal.lean ====
/-
  What the launch deals to the devices: the right to open each cell, the tokens of the signals and
  copies each device makes, and the rights to wait on what the neighbours raise.
-/
module

public import proofs.«01_k».proof.Proof.Slots

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

/-! ## A family over the semaphores of the protocol, use by use -/

/-- A family over `m + n` members: over the first `m` and over the other `n`. -/
theorem each_add (m n : ℕ) (Φ : Fin (m + n) → sProp 𝕄) :
    each Φ = iprop((each fun i => Φ (Fin.castAdd n i)) ∗ each fun j => Φ (Fin.natAdd m j)) := by
  unfold each
  rw [bigSep_univ_equiv (finSumFinEquiv (m := m) (n := n)) Φ, bigSep_univ_sum]
  rfl

/-- A family over the forty-nine copy semaphores, use by use. -/
theorem each_live (Φ : DmaSem sig → sProp 𝕄) :
    (each fun i : Fin 49 => Φ (live i)) = iprop((each fun k => Φ (cpl k)) ∗ (each fun k => Φ (cps k)) ∗ (each fun k => Φ (ysS k))
      ∗ (each fun k => Φ (ysR k)) ∗ (each fun j => Φ (xsS j)) ∗ (each fun j => Φ (xsR j)) ∗ (each fun j => Φ (zsS j))
      ∗ (each fun j => Φ (zsR j)) ∗ Φ gsem) := by
  have e : (each fun i : Fin 49 => Φ (live i))
      = each fun i : Fin (8 + (8 + (8 + (8 + (4 + (4 + (4 + (4 + 1)))))))) => Φ (live i) := rfl
  rw [e, each_add, each_add, each_add, each_add, each_add, each_add, each_add, each_add]
  have h1 : ∀ k : Fin 8, live (Fin.castAdd (8 + (8 + (8 + (4 + (4 + (4 + (4 + 1))))))) k) = cpl k := by decide
  have h2 : ∀ k : Fin 8, live (Fin.natAdd 8 (Fin.castAdd (8 + (8 + (4 + (4 + (4 + (4 + 1)))))) k)) = cps k := by decide
  have h3 : ∀ k : Fin 8, live (Fin.natAdd 8 (Fin.natAdd 8 (Fin.castAdd (8 + (4 + (4 + (4 + (4 + 1))))) k))) = ysS k := by decide
  have h4 : ∀ k : Fin 8, live (Fin.natAdd 8 (Fin.natAdd 8 (Fin.natAdd 8 (Fin.castAdd (4 + (4 + (4 + (4 + 1)))) k)))) = ysR k := by decide
  have h5 : ∀ k : Fin 4, live (Fin.natAdd 8 (Fin.natAdd 8 (Fin.natAdd 8 (Fin.natAdd 8 (Fin.castAdd (4 + (4 + (4 + 1))) k))))) = xsS k := by decide
  have h6 : ∀ k : Fin 4, live (Fin.natAdd 8 (Fin.natAdd 8 (Fin.natAdd 8 (Fin.natAdd 8 (Fin.natAdd 4 (Fin.castAdd (4 + (4 + 1)) k)))))) = xsR k := by decide
  have h7 : ∀ k : Fin 4, live (Fin.natAdd 8 (Fin.natAdd 8 (Fin.natAdd 8 (Fin.natAdd 8 (Fin.natAdd 4 (Fin.natAdd 4 (Fin.castAdd (4 + 1) k))))))) = zsS k := by decide
  have h8 : ∀ k : Fin 4, live (Fin.natAdd 8 (Fin.natAdd 8 (Fin.natAdd 8 (Fin.natAdd 8 (Fin.natAdd 4 (Fin.natAdd 4 (Fin.natAdd 4 (Fin.castAdd 1 k)))))))) = zsR k := by decide
  have h9 : (each fun k : Fin 1 => Φ (live (Fin.natAdd 8 (Fin.natAdd 8 (Fin.natAdd 8 (Fin.natAdd 8 (Fin.natAdd 4 (Fin.natAdd 4 (Fin.natAdd 4 (Fin.natAdd 4 k)))))))))) = Φ gsem := by
    unfold each
    rw [show (Finset.univ : Finset (Fin 1)) = {0} from by decide, bigSep_singleton]
    rfl
  simp only [h1, h2, h3, h4, h5, h6, h7, h8]
  rw [h9]

/-- The kernel's own semaphores. -/
def osem (i : Fin 49) : SemLoc sig := .dma (live i)

/-- The numbering of the copy semaphores names each once, -/
theorem live_inj : Function.Injective live := fun i j h => Fin.ext (Nat.succ.inj (congrArg (fun s : DmaSem sig => s.val) h))
/-- A counting semaphore is no copy semaphore. -/
theorem reg_ne_dma (b : Sem sig) (i : DmaSem sig) : (SemLoc.reg b : SemLoc sig) ≠ .dma i := fun h => by cases h
/-- as semaphores of the kernel too. -/
theorem osem_inj : Function.Injective osem := fun _ _ h => live_inj (SemLoc.dma.inj h)

/-! ## Tokens -/

/-- The tokens of the copies device `c` makes. -/
def toks (c : Dev nD) : sProp 𝕄 :=
  iprop((each fun k => tokOf c (cpl k)) ∗ (each fun k => tokOf c (cps k)) ∗ (each fun k => tokOf c (ysS k))
    ∗ (each fun k => tokOf (yn c) (ysR k)) ∗ (each fun j => tokOf c (xsS j)) ∗ (each fun j => tokOf (xn c) (xsR j))
    ∗ (each fun j => tokOf c (zsS j)) ∗ (each fun j => tokOf (zn c) (zsR j)) ∗ tokOf c gsem)

/-- The tokens of its signals. -/
def barToks (c : Dev nD) : sProp 𝕄 :=
  iprop(dutyTok ER (barCell (xn c)) 0 0 ∗ dutyTok ER (barCell (yn c)) 0 1 ∗ dutyTok ER (barCell (zn c)) 0 2)

/-- Each copy's tokens, at the device that makes it. -/
theorem toks_around : (each fun c : Dev nD => each fun i : Fin 49 => (tokOf c (live i) : sProp 𝕄)) ⊢ each fun c : Dev nD => toks c := by
  have e (c : Dev nD) : (each fun i : Fin 49 => (tokOf c (live i) : sProp 𝕄)) = _ := each_live (fun i => tokOf c i)
  simp only [e]
  unfold toks each
  simp only [bigSep_sep']
  rw [bigSep_univ_equiv yEquiv (fun c : Dev nD => bigSep Finset.univ fun k => (tokOf c (ysR k) : sProp 𝕄)),
    bigSep_univ_equiv xEquiv (fun c : Dev nD => bigSep Finset.univ fun k => (tokOf c (xsR k) : sProp 𝕄)),
    bigSep_univ_equiv zEquiv (fun c : Dev nD => bigSep Finset.univ fun k => (tokOf c (zsR k) : sProp 𝕄))]
  exact BI.Entails.refl _

/-- Each barrier's three tokens go to the three neighbours that signal it. -/
theorem barToks_around :
    (each fun c : Dev nD => iprop((dutyTok ER (barCell c) 0 0 : sProp 𝕄) ∗ dutyTok ER (barCell c) 0 1 ∗ dutyTok ER (barCell c) 0 2))
      ⊢ each fun c : Dev nD => barToks c := by
  unfold barToks each
  simp only [bigSep_sep']
  rw [bigSep_univ_equiv xEquiv (fun c : Dev nD => (dutyTok ER (barCell c) 0 0 : sProp 𝕄)),
    bigSep_univ_equiv yEquiv (fun c : Dev nD => (dutyTok ER (barCell c) 0 1 : sProp 𝕄)),
    bigSep_univ_equiv zEquiv (fun c : Dev nD => (dutyTok ER (barCell c) 0 2 : sProp 𝕄))]
  exact BI.Entails.refl _

/-! ## The cells and tokens of the launch -/

def barEmb : Dev nD ↪ GSem nD τ sig := ⟨fun c => barCell c, fun _ _ h => congrArg (fun g : GSem nD τ sig => g.1.1) h⟩
def dmaEmb : Dev nD × Fin 49 ↪ GSem nD τ sig :=
  ⟨fun p => dCell p.1 (live p.2), fun _ _ h =>
    Prod.ext (congrArg (fun g : GSem nD τ sig => g.1.1) h) (osem_inj (congrArg Prod.snd h))⟩

abbrev barCells : Finset (GSem nD τ sig) := Finset.univ.map barEmb
abbrev dmaCells : Finset (GSem nD τ sig) := Finset.univ.map dmaEmb

/-- The barriers and the copies' semaphores are different. -/
theorem cells_disjoint : Disjoint (barCells : Finset (GSem nD τ sig)) dmaCells := by
  rw [Finset.disjoint_left]
  rintro g h₁ h₂
  obtain ⟨c, -, rfl⟩ := Finset.mem_map.mp h₁
  obtain ⟨p, -, h⟩ := Finset.mem_map.mp h₂
  exact reg_ne_dma barS (live p.2) (congrArg (fun g : GSem nD τ sig => g.2) h).symm

/-- A token: of a signal to a device's barrier, or of the copy on one of its semaphores. -/
def tokAt (p : Dev nD × (Fin 3 ⊕ Fin 49)) : GSem nD τ sig × ℕ × Fin 3 :=
  match p.2 with
  | .inl d => (barCell p.1, 0, d)
  | .inr i => (dCell p.1 (live i), 0, 0)

/-- Different duties have different tokens. -/
theorem tokAt_inj : Function.Injective tokAt := fun p p' h => by
  obtain ⟨c, s⟩ := p
  obtain ⟨c', s'⟩ := p'
  have hc : c = c' := by
    rcases s with d | i <;> rcases s' with d' | i' <;>
      exact congrArg (fun t : GSem nD τ sig × ℕ × Fin 3 => t.1.1.1) h
  subst hc
  rcases s with d | i <;> rcases s' with d' | i'
  · have : d = d' := congrArg (fun t : GSem nD τ sig × ℕ × Fin 3 => t.2.2) h
    rw [this]
  · exact absurd (congrArg (fun t : GSem nD τ sig × ℕ × Fin 3 => t.1.2) h) (reg_ne_dma _ _)
  · exact absurd (congrArg (fun t : GSem nD τ sig × ℕ × Fin 3 => t.1.2) h).symm (reg_ne_dma _ _)
  · have : i = i' := osem_inj (congrArg (fun t : GSem nD τ sig × ℕ × Fin 3 => t.1.2) h)
    rw [this]

def allToks : Finset (GSem nD τ sig × ℕ × Fin 3) := Finset.univ.map ⟨tokAt, tokAt_inj⟩

/-- A family over three members, written out. -/
theorem each_three (Φ : Fin 3 → sProp 𝕄) : each Φ = iprop(Φ 0 ∗ Φ 1 ∗ Φ 2) := by
  unfold each
  rw [show (Finset.univ : Finset (Fin 3)) = insert 0 (insert 1 {2}) from by decide, BI.bigSep_insert (by decide), BI.bigSep_insert (by decide), bigSep_singleton]
  rfl

/-- All the tokens, dealt. -/
theorem toks_dealt : bigSep allToks (fun x => (dutyTok ER x.1 x.2.1 x.2.2 : sProp 𝕄))
    ⊢ iprop((each fun c : Dev nD => barToks c) ∗ each fun c : Dev nD => toks c) := by
  have e : bigSep allToks (fun x => (dutyTok ER x.1 x.2.1 x.2.2 : sProp 𝕄))
      = iprop((each fun c : Dev nD => iprop((dutyTok ER (barCell c) 0 0 : sProp 𝕄) ∗ dutyTok ER (barCell c) 0 1 ∗ dutyTok ER (barCell c) 0 2))
          ∗ each fun c : Dev nD => each fun i : Fin 49 => (tokOf c (live i) : sProp 𝕄)) := by
    unfold allToks
    rw [bigSep_map, bigSep_univ_prod]
    have h (c : Dev nD) : (bigSep Finset.univ fun s : Fin 3 ⊕ Fin 49 =>
          (dutyTok ER (tokAt (c, s)).1 (tokAt (c, s)).2.1 (tokAt (c, s)).2.2 : sProp 𝕄))
        = iprop((iprop((dutyTok ER (barCell c) 0 0 : sProp 𝕄) ∗ dutyTok ER (barCell c) 0 1 ∗ dutyTok ER (barCell c) 0 2))
          ∗ each fun i : Fin 49 => (tokOf c (live i) : sProp 𝕄)) := by
      rw [bigSep_univ_sum]
      rw [show (bigSep Finset.univ fun d : Fin 3 => (dutyTok ER (tokAt (c, .inl d)).1 (tokAt (c, .inl d)).2.1 (tokAt (c, .inl d)).2.2 : sProp 𝕄))
        = _ from each_three (fun d : Fin 3 => (dutyTok ER (barCell c) 0 d : sProp 𝕄))]
      rfl
    refine (bigSep_congr fun c _ => h c).trans ?_
    rw [bigSep_sep']
  rw [e]
  iintro ⟨H, H'⟩
  isplitl [H]
  · iapply barToks_around; iexact H
  · iapply toks_around; iexact H'

/-! ## The rights to wait on what the neighbours raise -/

/-- All that is owed to a semaphore of any device. -/
def dueAt (s : SemLoc sig) : ℕ :=
  (∑ j : Fin 4, if s = .dma (xsR j) then NB else 0) + (∑ j : Fin 4, if s = .dma (zsR j) then NB else 0)
    + (∑ k : Fin 8, if s = .dma (ysR k) then NB else 0)
    + (if s = .reg barS then 1 else 0) + (if s = .reg barS then 1 else 0) + (if s = .reg barS then 1 else 0)

/-- A tally raised at one neighbour by every device reaches every device once. -/
theorem sum_around (e : Dev nD ≃ Dev nD) (s' : SemLoc sig) (n : ℕ) (c : Dev nD) (s : SemLoc sig) :
    (∑ d : Dev nD, (tallyAt ((e d : Thread nD τ), s') () n : CellTallies nD τ sig Unit) ((c : Thread nD τ), s) ()) = if s = s' then n else 0 := by
  rw [Finset.sum_eq_single (e.symm c)]
  · rw [tallyAt_apply, e.apply_symm_apply]
    by_cases h : s = s'
    · rw [if_pos h, if_pos ⟨by rw [h], rfl⟩]
    · rw [if_neg h, if_neg fun hh => h (congrArg Prod.snd hh.1)]
  · intro d _ hd
    rw [tallyAt_apply, if_neg]
    intro hh
    apply hd
    rw [show c = e d from congrArg (fun g : GSem nD τ sig => g.1.1) hh.1, e.symm_apply_apply]
  · intro h; exact absurd (Finset.mem_univ _) h

/-- Summing from block zero on is summing over all. -/
theorem from_zero {n : ℕ} (O : Fin n → CellTallies nD τ sig Unit) : (∑ k ∈ Finset.univ.filter (fun k : Fin n => 0 ≤ k.val), O k) = ∑ k, O k := by
  rw [Finset.filter_true_of_mem fun _ _ => Nat.zero_le _]

/-- All that is owed along one direction to a device: one slot for each semaphore of that direction. -/
theorem sum_family {n : ℕ} (e : Dev nD ≃ Dev nD) (sm : Fin n → DmaSem sig) (hN : ∀ k, amt (kindOf (sm k)) = NB) (c : Dev nD) (s : SemLoc sig) :
    (∑ d : Dev nD, (∑ k ∈ Finset.univ.filter (fun k : Fin n => 0 ≤ k.val), owedAt (e d) (sm k)) ((c : Thread nD τ), s) ())
      = ∑ k : Fin n, if s = .dma (sm k) then NB else 0 := by
  have h (d : Dev nD) : (∑ k ∈ Finset.univ.filter (fun k : Fin n => 0 ≤ k.val), owedAt (e d) (sm k)) ((c : Thread nD τ), s) ()
      = ∑ k : Fin n, (owedAt (e d) (sm k)) ((c : Thread nD τ), s) () := by
    rw [from_zero, Finset.sum_apply, Finsupp.finset_sum_apply]
  rw [Finset.sum_congr rfl fun d _ => h d, Finset.sum_comm]
  refine Finset.sum_congr rfl fun k _ => ?_
  rw [← hN k]
  exact sum_around e (.dma (sm k)) _ c s

/-- All that the devices together owe to one semaphore. -/
theorem due_total (c : Dev nD) (s : SemLoc sig) : (∑ d : Dev nD, O₀ d ((c : Thread nD τ), s) ()) = dueAt s := by
  unfold O₀ dueAt
  simp only [Pi.add_apply, Finsupp.add_apply, Finset.sum_add_distrib]
  rw [show (∑ d : Dev nD, OX d 0 ((c : Thread nD τ), s) ()) = _ from sum_family xEquiv xsR (fun j => by rw [kind_xsR]; rfl) c s,
    show (∑ d : Dev nD, OZ d 0 ((c : Thread nD τ), s) ()) = _ from sum_family zEquiv zsR (fun j => by rw [kind_zsR]; rfl) c s,
    show (∑ d : Dev nD, OY d 0 ((c : Thread nD τ), s) ()) = _ from sum_family yEquiv ysR (fun j => by rw [kind_ysR]; rfl) c s,
    show (∑ d : Dev nD, (tallyAt (barCell (zn d)) () 1 : CellTallies nD τ sig Unit) ((c : Thread nD τ), s) ()) = _ from sum_around zEquiv (.reg barS) 1 c s,
    show (∑ d : Dev nD, (tallyAt (barCell (yn d)) () 1 : CellTallies nD τ sig Unit) ((c : Thread nD τ), s) ()) = _ from sum_around yEquiv (.reg barS) 1 c s,
    show (∑ d : Dev nD, (tallyAt (barCell (xn d)) () 1 : CellTallies nD τ sig Unit) ((c : Thread nD τ), s) ()) = _ from sum_around xEquiv (.reg barS) 1 c s]

/-- A barrier is owed three. -/
theorem due_bar : dueAt (.reg barS) = 3 := by
  unfold dueAt
  rw [Finset.sum_eq_zero fun j _ => if_neg (reg_ne_dma barS (xsR j)), Finset.sum_eq_zero fun j _ => if_neg (reg_ne_dma barS (zsR j)),
    Finset.sum_eq_zero fun j _ => if_neg (reg_ne_dma barS (ysR j)), if_pos rfl]
  rfl

/-- Two semaphores of different use are different. -/
theorem dma_ne {i i' : DmaSem sig} (h : kindOf i ≠ kindOf i') : (SemLoc.dma i : SemLoc sig) ≠ .dma i' := fun e => h (by rw [SemLoc.dma.inj e])

/-- A semaphore of another use gets nothing from a direction, -/
theorem sum_none {n : ℕ} (i : DmaSem sig) (sm : Fin n → DmaSem sig) (h : ∀ k, kindOf i ≠ kindOf (sm k)) :
    (∑ k : Fin n, if (SemLoc.dma i : SemLoc sig) = .dma (sm k) then NB else 0) = 0 :=
  Finset.sum_eq_zero fun k _ => if_neg (dma_ne (h k))
/-- one of that direction gets one slot. -/
theorem sum_one {n : ℕ} (sm : Fin n → DmaSem sig) (k₀ : Fin n) (h : ∀ k, k ≠ k₀ → kindOf (sm k₀) ≠ kindOf (sm k)) :
    (∑ k : Fin n, if (SemLoc.dma (sm k₀) : SemLoc sig) = .dma (sm k) then NB else 0) = NB := by
  rw [Finset.sum_eq_single k₀ (fun k _ hk => if_neg (dma_ne (h k hk))) fun h => absurd (Finset.mem_univ _) h, if_pos rfl]

/-- A copy's semaphore gets no signal. -/
theorem not_bar (i : DmaSem sig) : (if (SemLoc.dma i : SemLoc sig) = .reg barS then 1 else 0) = 0 := if_neg (reg_ne_dma barS i).symm

/-- A semaphore of blocks landing along y is owed one slot, -/
theorem due_ysR (k : Fin 8) : dueAt (.dma (ysR k)) = amt (kindOf (ysR k)) := by
  unfold dueAt
  rw [sum_none _ xsR fun j => by rw [kind_ysR, kind_xsR]; simp, sum_none _ zsR fun j => by rw [kind_ysR, kind_zsR]; simp,
    sum_one ysR k fun j hj => by rw [kind_ysR, kind_ysR]; simpa using hj.symm, not_bar, kind_ysR]
  simp only [Nat.zero_add, Nat.add_zero]
  rfl
/-- so is one of blocks landing along x, -/
theorem due_xsR (k : Fin 4) : dueAt (.dma (xsR k)) = amt (kindOf (xsR k)) := by
  unfold dueAt
  rw [sum_one xsR k fun j hj => by rw [kind_xsR, kind_xsR]; simpa using hj.symm, sum_none _ zsR fun j => by rw [kind_xsR, kind_zsR]; simp,
    sum_none _ ysR fun j => by rw [kind_xsR, kind_ysR]; simp, not_bar, kind_xsR]
  simp only [Nat.zero_add, Nat.add_zero]
  rfl
/-- and one of blocks landing along z. -/
theorem due_zsR (k : Fin 4) : dueAt (.dma (zsR k)) = amt (kindOf (zsR k)) := by
  unfold dueAt
  rw [sum_none _ xsR fun j => by rw [kind_zsR, kind_xsR]; simp, sum_one zsR k fun j hj => by rw [kind_zsR, kind_zsR]; simpa using hj.symm,
    sum_none _ ysR fun j => by rw [kind_zsR, kind_ysR]; simp, not_bar, kind_zsR]
  simp only [Nat.zero_add, Nat.add_zero]
  rfl

/-- The credit a semaphore has at launch is what is owed to it. -/
theorem launch_at (c : Dev nD) (s : SemLoc sig) :
    tallyOn ((c : Thread nD τ), s) (launchCredit (Pipeline.owing O₀) 0 ((c : Thread nD τ), s))
      = (tallyAt ((c : Thread nD τ), s) () (dueAt s) : CellTallies nD τ sig Unit) := by
  unfold tallyAt
  refine congrArg _ (Finsupp.ext fun u => ?_)
  cases u
  rw [Pipeline.launchCredit_owing, Finsupp.single_eq_same, due_total]

/-- What a device may wait for at the start. -/
def credits (c : Dev nD) : sProp 𝕄 :=
  iprop(cred (tallyAt (barCell c) () 3) ∗ (each fun k => credOf c (ysR k)) ∗ (each fun j => credOf c (xsR j)) ∗ each fun j => credOf c (zsR j))

/-- So at launch a device may wait for its barrier and for every block to land. -/
theorem credits_dealt (c : Dev nD) : (Pipeline.launchCred O₀ c : sProp 𝕄) ⊢ credits c := by
  unfold Pipeline.launchCred credits
  simp only [launch_at]
  rw [bigSep_univ_at _ (SemLoc.reg barS)]
  have hs : (Finset.univ.map ⟨osem, osem_inj⟩ : Finset (SemLoc sig)) ⊆ Finset.univ.erase (SemLoc.reg barS) := fun s hs => by
    obtain ⟨i, -, rfl⟩ := Finset.mem_map.mp hs
    exact Finset.mem_erase.mpr ⟨(reg_ne_dma _ _).symm, Finset.mem_univ _⟩
  have h : bigSep (Finset.univ.erase (SemLoc.reg barS)) (fun s : SemLoc sig => (cred (tallyAt ((c : Thread nD τ), s) () (dueAt s)) : sProp 𝕄))
      ⊢ each fun i : Fin 49 => (cred (tallyAt (dCell c (live i)) () (dueAt (.dma (live i)))) : sProp 𝕄) :=
    (bigSep_subset hs).trans (Entails.of_eq (bigSep_map _))
  have h' := h.trans (Entails.of_eq (each_live (fun i => (cred (tallyAt (dCell c i) () (dueAt (.dma i))) : sProp 𝕄))))
  simp only [due_ysR, due_xsR, due_zsR] at h'
  rw [due_bar]
  iintro ⟨H, H'⟩
  ihave H' := h' $$ H'
  icases H' with ⟨-, -, -, Hy, -, Hx, -, Hz, -⟩
  isplitl [H]; · iexact H
  isplitl [Hy]; · iexact Hy
  isplitl [Hx]; · iexact Hx
  iexact Hz

end Cert.KernelIdeal.Run
-- ==== Proof.Enter.lean ====
/-
  From what a device has as the kernel is called to what its body starts with, and from what the body
  ends with to what the call gives back.
-/
module

public import proofs.«01_k».proof.Proof.Deal

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] (a : Args F)

local notation "𝕄" => MT nD τ sig Unit (Elt F) ℕ UU ℕ

variable (K : GSem nD τ sig → ℕ)

/-- Two steps, side by side. -/
theorem both {P P' Q Q' : sProp 𝕄} (h : P ⊢ Q) (h' : P' ⊢ Q') : iprop(P ∗ P') ⊢ iprop(Q ∗ Q') := by
  iintro ⟨H, H'⟩
  isplitl [H]
  · iapply h; iexact H
  · iapply h'; iexact H'

/-! ## Opening and closing the cells -/

/-- The first round of every device's barrier has begun. -/
def begun : sProp 𝕄 := each fun d : Dev nD => reached ER (barCell d) 0

instance begun_persistent : Persistent (begun (F := F)) := by unfold begun; infer_instance

/-- Of any one device the barrier's first round has begun. -/
theorem begun_at (d : Dev nD) : (begun : sProp 𝕄) ⊢ reached ER (barCell d) 0 := bigSep_elim (Finset.mem_univ d)

/-- A device's cells, just opened. -/
def fresh (c : Dev nD) (i : DmaSem sig) : sProp 𝕄 := iprop(atStart c i ∗ reached ER (dCell c i) 0)

/-- What the protocol gives a device before its kernel is called. -/
def started (c : Dev nD) : sProp 𝕄 :=
  iprop(∃ K, Ctx a K ∗ begun ∗ atPos ER (barCell c) 0 ∅ 0 ∗ (each fun i => openTok ER (dCell c (live i))) ∗ barToks c ∗ toks c ∗ credits c)

/-- The same, with the device's copy cells opened. -/
def opened (c : Dev nD) : sProp 𝕄 :=
  iprop(∃ K, Ctx a K ∗ begun ∗ atPos ER (barCell c) 0 ∅ 0 ∗ (each fun i => fresh c (live i)) ∗ barToks c ∗ toks c ∗ credits c)

/-- Entering the call, a device's own counters become the protocol's cells; -/
theorem open_cells (c : Dev nD) : iprop(started a c ∗ Pipeline.ownSems0 osem c) ⊢ (|={Set.univ}=> opened a c : sProp 𝕄) := by
  unfold started opened
  iintro ⟨⟨%K, #HC, #HB, Hat, Ho, Hr⟩, Hs⟩
  have h1 : ∀ i ∈ (Finset.univ : Finset (Fin 49)), iprop(Ctx a K ∗ (openTok ER (dCell c (live i)) ∗ semVal ((c : Thread nD τ), osem i) 0))
      ⊢ (|={Set.univ}=> fresh c (live i) : sProp 𝕄) := fun i _ => by
    unfold fresh
    iintro ⟨#HC, Ho, Hs⟩
    ihave #HI := (Ctx_dma a K c (live_ne i)) $$ HC
    iapply (Rounds.cell_open ER (Rd a) (g := dCell c (live i)) (Set.mem_univ (K (dCell c (live i)))))
    isplitr; · iexact HI
    isplitl [Ho]; · iexact Ho
    iexact Hs
  have h2 : iprop(Ctx a K ∗ each fun i : Fin 49 => iprop(openTok ER (dCell c (live i)) ∗ semVal ((c : Thread nD τ), osem i) 0))
      ⊢ (|={Set.univ}=> each fun i : Fin 49 => fresh c (live i) : sProp 𝕄) :=
    (bigSep_with_persistent h1).trans (bigSep_fupd _ _)
  have h3 : iprop((each fun i : Fin 49 => openTok ER (dCell c (live i))) ∗ Pipeline.ownSems0 osem c)
      ⊢ (each fun i : Fin 49 => iprop(openTok ER (dCell c (live i)) ∗ semVal ((c : Thread nD τ), osem i) 0) : sProp 𝕄) := pair_up _ _
  imod h2 $$ [Ho Hs] with H
  · isplitr; · iexact HC
    iapply h3
    isplitl [Ho]; · iexact Ho
    iexact Hs
  imodintro
  iexists K
  isplitr; · iexact HC
  isplitr; · iexact HB
  isplitl [Hat]; · iexact Hat
  isplitl [H]; · iexact H
  iexact Hr

/-- leaving it, each cell that had its copy is a counter at zero again, -/
theorem close_cells (c : Dev nD) :
    iprop(Ctx a K ∗ each fun i : Fin 49 => atEnd c (live i)) ⊢ (|={Set.univ}=> Pipeline.ownSems0 osem c : sProp 𝕄) := by
  have h1 : ∀ i ∈ (Finset.univ : Finset (Fin 49)), iprop(Ctx a K ∗ atEnd c (live i))
      ⊢ (|={Set.univ}=> semVal ((c : Thread nD τ), osem i) 0 : sProp 𝕄) := fun i _ => by
    iintro ⟨#HC, Hat⟩
    ihave #HI := (Ctx_dma a K c (live_ne i)) $$ HC
    iapply (Rounds.cell_close ER (Rd a) (g := dCell c (live i)) (Set.mem_univ (K (dCell c (live i)))) id (duties_later a _))
    isplitr; · iexact HI
    iexact Hat
  exact (bigSep_with_persistent h1).trans (bigSep_fupd _ _)

/-- and so is the barrier. -/
theorem close_bar (c : Dev nD) : iprop(Ctx a K ∗ atPos ER (barCell c) 1 ∅ 0) ⊢ (|={Set.univ}=> semVal (barCell c) 0 : sProp 𝕄) := by
  iintro ⟨#HC, Hat⟩
  ihave #HI := (Ctx_bar a K c) $$ HC
  iapply (Rounds.cell_close ER (Rd a) (g := barCell c) (Set.mem_univ (K (barCell c))) id (duties_later a _))
  isplitr; · iexact HI
  iexact Hat

/-! ## The scratch buffers -/

/-- The scratch buffers, at contents not said. -/
def scratch (c : Dev nD) : sProp 𝕄 :=
  iprop(wholeOf c cc0_scratch0 ∗ wholeOf c cc0_scratch1 ∗ wholeOf c cc0_scratch2 ∗ wholeOf c cc0_scratch3
    ∗ wholeOf c cc0_scratch4 ∗ wholeOf c cc0_scratch5 ∗ wholeOf c cc0_scratch6 ∗ wholeOf c cc0_scratch7)

/-- They are the slots. -/
def slots (c : Dev nD) : sProp 𝕄 :=
  iprop((each fun k => anyOwn c (slot8 lbuf k)) ∗ (each fun k => anyOwn c (slot8 sbuf k)) ∗ (each fun k => anyOwn c (slot8 ysend k))
    ∗ (each fun k => anyOwn c (slot8 yrecv k)) ∗ (each fun j => anyOwn c (slot4 gsend j)) ∗ (each fun j => anyOwn c (slot4 xrecv j))
    ∗ (each fun j => anyOwn c (slot4 zrecv j)) ∗ anyOwn c gvmem)

/-- A whole buffer, as a memref, -/
theorem any_whole (c : Dev nD) (b : Ref sig .tc) : (wholeOf c b : sProp 𝕄) ⊢ anyOwn c (Memref.whole b) := by
  iintro ⟨%f, H⟩
  iexists f
  rw [owns_whole]
  iexact H
/-- and back. -/
theorem whole_any (c : Dev nD) (b : Ref sig .tc) : (anyOwn c (Memref.whole b) : sProp 𝕄) ⊢ wholeOf c b := by
  iintro ⟨%f, H⟩
  iexists f
  exact Entails.of_eq (owns_whole (c : Thread nD τ) b fullShare f)

/-- The scratch buffers, cut into slots, -/
theorem slots_scratch (c : Dev nD) : (scratch c : sProp 𝕄) ⊢ slots c := by
  have h0 := (Entails.of_eq (whole_set (F := F) c cc0_scratch0)).trans (slots8_of c lbuf)
  have h1 := (Entails.of_eq (whole_set (F := F) c cc0_scratch1)).trans (slots8_of c sbuf)
  have h2 := (Entails.of_eq (whole_set (F := F) c cc0_scratch2)).trans (slots8_of c ysend)
  have h3 := (Entails.of_eq (whole_set (F := F) c cc0_scratch3)).trans (slots8_of c yrecv)
  have h4 := (Entails.of_eq (whole_set (F := F) c cc0_scratch4)).trans (slots4_of c gsend)
  have h5 := (Entails.of_eq (whole_set (F := F) c cc0_scratch5)).trans (slots4_of c xrecv)
  have h6 := (Entails.of_eq (whole_set (F := F) c cc0_scratch6)).trans (slots4_of c zrecv)
  unfold scratch slots
  exact both h0 (both h1 (both h2 (both h3 (both h4 (both h5 (both h6 (any_whole c _)))))))

/-- and put together again. -/
theorem scratch_slots (c : Dev nD) : (slots c : sProp 𝕄) ⊢ scratch c := by
  have h0 := (of_slots8 (F := F) c lbuf).trans (Entails.of_eq (whole_set (F := F) c cc0_scratch0).symm)
  have h1 := (of_slots8 (F := F) c sbuf).trans (Entails.of_eq (whole_set (F := F) c cc0_scratch1).symm)
  have h2 := (of_slots8 (F := F) c ysend).trans (Entails.of_eq (whole_set (F := F) c cc0_scratch2).symm)
  have h3 := (of_slots8 (F := F) c yrecv).trans (Entails.of_eq (whole_set (F := F) c cc0_scratch3).symm)
  have h4 := (of_slots4 (F := F) c gsend).trans (Entails.of_eq (whole_set (F := F) c cc0_scratch4).symm)
  have h5 := (of_slots4 (F := F) c xrecv).trans (Entails.of_eq (whole_set (F := F) c cc0_scratch5).symm)
  have h6 := (of_slots4 (F := F) c zrecv).trans (Entails.of_eq (whole_set (F := F) c cc0_scratch6).symm)
  unfold scratch slots
  exact both h0 (both h1 (both h2 (both h3 (both h4 (both h5 (both h6 (whole_any c _)))))))

/-! ## What a device hands its neighbours with its signals -/

/-- The x neighbour is handed the slots blocks land in along x, -/
theorem pay_x (c : Dev nD) : iprop((each fun j => anyOwn c (slot4 xrecv j)) ∗ each fun j => reached ER (dCell c (xsR j)) 0) ⊢ (barPay (xn c) 0 : sProp 𝕄) := by
  unfold barPay
  rw [xn_xn]
  exact pair_up _ _
/-- the y neighbour those along y, -/
theorem pay_y (c : Dev nD) : iprop((each fun k => anyOwn c (slot8 yrecv k)) ∗ each fun k => reached ER (dCell c (ysR k)) 0) ⊢ (barPay (yn c) 1 : sProp 𝕄) := by
  unfold barPay
  rw [yn_yn]
  exact pair_up _ _
/-- the z neighbour those along z. -/
theorem pay_z (c : Dev nD) : iprop((each fun j => anyOwn c (slot4 zrecv j)) ∗ each fun j => reached ER (dCell c (zsR j)) 0) ⊢ (barPay (zn c) 2 : sProp 𝕄) := by
  unfold barPay
  rw [zn_zn]
  exact pair_up _ _

/-! ## The body's start -/

/-- The two arguments and the output buffer, as the body finds them. -/
def given (c : Dev nD) : sProp 𝕄 :=
  iprop(argHeld a c ∗ (∃ q, owns (c : Thread nD τ) gsrc q (a.2 c)) ∗ wholeOf c cc0_stg0_0)

/-- Before anything is written the result's buffer may hold anything. -/
theorem outAt_none (c : Dev nD) : (wholeOf c cc0_stg0_0 : sProp 𝕄) ⊢ outAt a c ∅ := by
  unfold outAt
  iintro ⟨%f, H⟩
  iexists f
  isplitl [H]; · iexact H
  ipureintro
  exact fun s hs => absurd hs (Finset.notMem_empty s)

/-- The opened cells, use by use. -/
theorem fresh_live (c : Dev nD) : (each fun i : Fin 49 => fresh c (live i) : sProp 𝕄)
    ⊢ iprop(((each fun k => atStart c (cpl k)) ∗ each fun k => reached ER (dCell c (cpl k)) 0)
      ∗ ((each fun k => atStart c (cps k)) ∗ each fun k => reached ER (dCell c (cps k)) 0)
      ∗ ((each fun k => atStart c (ysS k)) ∗ each fun k => reached ER (dCell c (ysS k)) 0)
      ∗ ((each fun k => atStart c (ysR k)) ∗ each fun k => reached ER (dCell c (ysR k)) 0)
      ∗ ((each fun j => atStart c (xsS j)) ∗ each fun j => reached ER (dCell c (xsS j)) 0)
      ∗ ((each fun j => atStart c (xsR j)) ∗ each fun j => reached ER (dCell c (xsR j)) 0)
      ∗ ((each fun j => atStart c (zsS j)) ∗ each fun j => reached ER (dCell c (zsS j)) 0)
      ∗ ((each fun j => atStart c (zsR j)) ∗ each fun j => reached ER (dCell c (zsR j)) 0)
      ∗ (atStart c gsem ∗ reached ER (dCell c gsem) 0)) := by
  refine (Entails.of_eq (each_live (fun i => fresh c i))).trans ?_
  exact both (un_pair _ _) (both (un_pair _ _) (both (un_pair _ _) (both (un_pair _ _)
    (both (un_pair _ _) (both (un_pair _ _) (both (un_pair _ _) (both (un_pair _ _) .rfl)))))))

/-- What the call is given is what the body starts from. -/
theorem enter (c : Dev nD) :
    iprop(opened a c ∗ owesSome c (O₀ c) ∗ given a c ∗ scratch c) ⊢ (iprop(∃ K, Ctx a K ∗ atFirst a c) : sProp 𝕄) := by
  unfold opened given
  iintro ⟨⟨%K, #HC, #HB, Hbar, Hfr, Hbt, Ht, Hcr⟩, HO, ⟨Ha, Hg, Hout⟩, Hscr⟩
  ihave Hfr := (fresh_live (F := F) c) $$ Hfr
  icases Hfr with ⟨⟨Hs1, #Hr1⟩, ⟨Hs2, #Hr2⟩, ⟨Hs3, #Hr3⟩, ⟨Hs4, #Hr4⟩, ⟨Hs5, #Hr5⟩, ⟨Hs6, #Hr6⟩, ⟨Hs7, #Hr7⟩, ⟨Hs8, #Hr8⟩, ⟨Hs9, #Hr9⟩⟩
  ihave Hsl := (slots_scratch (F := F) c) $$ Hscr
  unfold slots toks barToks credits
  icases Hsl with ⟨Hb1, Hb2, Hb3, Hb4, Hb5, Hb6, Hb7, Hb8⟩
  icases Ht with ⟨Ht1, Ht2, Ht3, Ht4, Ht5, Ht6, Ht7, Ht8, Ht9⟩
  icases Hbt with ⟨Hbx, Hby, Hbz⟩
  icases Hcr with ⟨Hcb, Hcy, Hcx, Hcz⟩
  iexists K
  isplitr; · iexact HC
  unfold atFirst
  isplitl [HO]; · iexact HO
  isplitl [Ha]; · iexact Ha
  isplitl [Hout]; · iapply (outAt_none a c); iexact Hout
  isplitl [Hg Hb8 Ht9 Hs9]
  · isplitl [Hg]; · iexact Hg
    isplitl [Hb8]; · iexact Hb8
    isplitl [Ht9]
    · isplitl [Ht9]; · iexact Ht9
      iexact Hr9
    iexact Hs9
  isplitl [Hbx Hb6]
  · isplitl [Hbx]; · iexact Hbx
    isplitr; · iapply (begun_at (xn c)); iexact HB
    iapply (pay_x (F := F) c)
    isplitl [Hb6]; · iexact Hb6
    iexact Hr6
  isplitl [Hby Hb4]
  · isplitl [Hby]; · iexact Hby
    isplitr; · iapply (begun_at (yn c)); iexact HB
    iapply (pay_y (F := F) c)
    isplitl [Hb4]; · iexact Hb4
    iexact Hr4
  isplitl [Hbz Hb7]
  · isplitl [Hbz]; · iexact Hbz
    isplitr; · iapply (begun_at (zn c)); iexact HB
    iapply (pay_z (F := F) c)
    isplitl [Hb7]; · iexact Hb7
    iexact Hr8
  isplitl [Hcb Hbar]
  · isplitl [Hcb]; · iexact Hcb
    iexact Hbar
  isplitl [Hb1 Hb2 Ht1 Ht2]
  · have h : iprop(((each fun k => anyOwn c (slot8 lbuf k)) ∗ ((each fun k => tokOf c (cpl k)) ∗ each fun k => reached ER (dCell c (cpl k)) 0))
        ∗ ((each fun k => anyOwn c (slot8 sbuf k)) ∗ ((each fun k => tokOf c (cps k)) ∗ each fun k => reached ER (dCell c (cps k)) 0)))
        ⊢ (each (fetchA (F := F) c) : sProp 𝕄) :=
      (both ((both .rfl (pair_up _ _)).trans (pair_up _ _)) ((both .rfl (pair_up _ _)).trans (pair_up _ _))).trans (pair_up _ _)
    iapply h
    isplitl [Hb1 Ht1]
    · isplitl [Hb1]; · iexact Hb1
      isplitl [Ht1]; · iexact Ht1
      iexact Hr1
    isplitl [Hb2]; · iexact Hb2
    isplitl [Ht2]; · iexact Ht2
    iexact Hr2
  isplitl [Hs2 Hb3]
  · iapply (pair_up (fun k => atStart c (cps k)) (fun k => anyOwn c (slot8 ysend k)))
    isplitl [Hs2]; · iexact Hs2
    iexact Hb3
  isplitl [Ht3 Ht4]
  · have h : iprop(((each fun k => tokOf c (ysS k)) ∗ each fun k => reached ER (dCell c (ysS k)) 0) ∗ each fun k => tokOf (yn c) (ysR k))
        ⊢ (each fun k => iprop(ready c (ysS k) ∗ tokOf (yn c) (ysR k)) : sProp 𝕄) := (both (pair_up _ _) .rfl).trans (pair_up _ _)
    iapply h
    isplitl [Ht3]
    · isplitl [Ht3]; · iexact Ht3
      iexact Hr3
    iexact Ht4
  isplitl [Hcy Hs4]
  · iapply (pair_up (fun k => credOf c (ysR k)) (fun k => atStart c (ysR k)))
    isplitl [Hcy]; · iexact Hcy
    iexact Hs4
  isplitl [Hs1]; · iexact Hs1
  isplitl [Hb5]; · iexact Hb5
  isplitl [Ht5 Ht6]
  · have h : iprop(((each fun j => tokOf c (xsS j)) ∗ each fun j => reached ER (dCell c (xsS j)) 0) ∗ each fun j => tokOf (xn c) (xsR j))
        ⊢ (each fun j => iprop(ready c (xsS j) ∗ tokOf (xn c) (xsR j)) : sProp 𝕄) := (both (pair_up _ _) .rfl).trans (pair_up _ _)
    iapply h
    isplitl [Ht5]
    · isplitl [Ht5]; · iexact Ht5
      iexact Hr5
    iexact Ht6
  isplitl [Ht7 Ht8]
  · have h : iprop(((each fun j => tokOf c (zsS j)) ∗ each fun j => reached ER (dCell c (zsS j)) 0) ∗ each fun j => tokOf (zn c) (zsR j))
        ⊢ (each fun j => iprop(ready c (zsS j) ∗ tokOf (zn c) (zsR j)) : sProp 𝕄) := (both (pair_up _ _) .rfl).trans (pair_up _ _)
    iapply h
    isplitl [Ht7]
    · isplitl [Ht7]; · iexact Ht7
      iexact Hr7
    iexact Ht8
  isplitl [Hcx Hs6]
  · iapply (pair_up (fun j => credOf c (xsR j)) (fun j => atStart c (xsR j)))
    isplitl [Hcx]; · iexact Hcx
    iexact Hs6
  isplitl [Hcz Hs8]
  · iapply (pair_up (fun j => credOf c (zsR j)) (fun j => atStart c (zsR j)))
    isplitl [Hcz]; · iexact Hcz
    iexact Hs8
  isplitl [Hs3]; · iexact Hs3
  isplitl [Hs5]; · iexact Hs5
  iexact Hs7

/-! ## The body's end -/

/-- Once all sixteen blocks are written the buffer holds the result. -/
theorem result_here (c : Dev nD) : (outAt a c Finset.univ : sProp 𝕄) ⊢ ((c : Thread nD τ).loc cc0_stg0_0 ↦{fullShare} result a c) := by
  unfold outAt
  iintro ⟨%f, H, %hf⟩
  have e := result_of_all a c f fun s => hf s (Finset.mem_univ s)
  subst e
  iexact H

/-- The cells after their copies, together again. -/
theorem gather_ends (c : Dev nD) :
    iprop((each fun k => atEnd c (cpl k)) ∗ (each fun k => atEnd c (cps k)) ∗ (each fun k => atEnd c (ysS k))
      ∗ (each fun k => atEnd c (ysR k)) ∗ (each fun j => atEnd c (xsS j)) ∗ (each fun j => atEnd c (xsR j)) ∗ (each fun j => atEnd c (zsS j))
      ∗ (each fun j => atEnd c (zsR j)) ∗ atEnd c gsem) ⊢ (each fun i : Fin 49 => atEnd c (live i) : sProp 𝕄) :=
  Entails.of_eq (each_live (fun i => atEnd c i)).symm

/-- What the body ends with is what the call gives back, with the result and all counters at zero. -/
theorem leave (c : Dev nD) :
    iprop(Ctx a K ∗ atLast a c) ⊢ (|={Set.univ}=> (semVal (barCell c) 0 ∗ Pipeline.ownSems0 osem c ∗ scratch c ∗ owesSome c 0
      ∗ ((c : Thread nD τ).loc cc0_stg0_0 ↦{fullShare} result a c)) : sProp 𝕄) := by
  unfold atLast
  iintro ⟨#HC, HO, Hw, Hout, He9, Hbar, Hst, Hpk, Hy, Hx, Hz, Hgx, Hgz⟩
  ihave Hst := (show each (stageB (F := F) c) ⊢ _ from un_pair (fun k => atEnd c (cps k)) (fun k => anyOwn c (slot8 sbuf k))) $$ Hst
  icases Hst with ⟨He2, Hb2⟩
  ihave Hpk := (show each (pickB (F := F) c) ⊢ _ from un_pair (fun k => iprop(atEnd c (ysR k) ∗ anyOwn c (slot8 yrecv k))) (fun k => iprop(atEnd c (cpl k) ∗ anyOwn c (slot8 lbuf k)))) $$ Hpk
  icases Hpk with ⟨Hp4, Hp1⟩
  ihave Hp4 := (un_pair (fun k => atEnd c (ysR k)) (fun k => anyOwn c (slot8 yrecv k))) $$ Hp4
  icases Hp4 with ⟨He4, Hb4⟩
  ihave Hp1 := (un_pair (fun k => atEnd c (cpl k)) (fun k => anyOwn c (slot8 lbuf k))) $$ Hp1
  icases Hp1 with ⟨He1, Hb1⟩
  ihave Hy := (un_pair (fun k => atEnd c (ysS k)) (fun k => anyOwn c (slot8 ysend k))) $$ Hy
  icases Hy with ⟨He3, Hb3⟩
  ihave Hx := (un_pair (fun j => atEnd c (xsR j)) (fun j => anyOwn c (slot4 xrecv j))) $$ Hx
  icases Hx with ⟨He6, Hb6⟩
  ihave Hz := (un_pair (fun j => atEnd c (zsR j)) (fun j => anyOwn c (slot4 zrecv j))) $$ Hz
  icases Hz with ⟨He8, Hb7⟩
  ihave Hgx := (un_pair (fun j => atEnd c (xsS j)) (fun j => owns (c : Thread nD τ) (slot4 gsend j) fullShare.left (gval a c j))) $$ Hgx
  icases Hgx with ⟨He5, Hl⟩
  ihave Hgz := (un_pair (fun j => atEnd c (zsS j)) (fun j => owns (c : Thread nD τ) (slot4 gsend j) fullShare.right (gval a c j))) $$ Hgz
  icases Hgz with ⟨He7, Hr⟩
  have hg : iprop((each fun j => owns (c : Thread nD τ) (slot4 gsend j) fullShare.left (gval a c j)) ∗ each fun j => owns (c : Thread nD τ) (slot4 gsend j) fullShare.right (gval a c j))
      ⊢ (each fun j => anyOwn c (slot4 gsend j) : sProp 𝕄) := (pair_up _ _).trans (each_mono fun j => halves_any c (slot4 gsend j) (gval a c j))
  imod (close_cells a K c) $$ [He1 He2 He3 He4 He5 He6 He7 He8 He9] with Hsem
  · isplitr; · iexact HC
    iapply (gather_ends (F := F) c)
    isplitl [He1]; · iexact He1
    isplitl [He2]; · iexact He2
    isplitl [He3]; · iexact He3
    isplitl [He4]; · iexact He4
    isplitl [He5]; · iexact He5
    isplitl [He6]; · iexact He6
    isplitl [He7]; · iexact He7
    isplitl [He8]; · iexact He8
    iexact He9
  imod (close_bar a K c) $$ [Hbar] with Hsb
  · isplitr; · iexact HC
    iexact Hbar
  imodintro
  isplitl [Hsb]; · iexact Hsb
  isplitl [Hsem]; · iexact Hsem
  isplitl [Hb1 Hb2 Hb3 Hb4 Hb6 Hb7 Hl Hr Hw]
  · iapply (scratch_slots (F := F) c)
    unfold slots
    isplitl [Hb1]; · iexact Hb1
    isplitl [Hb2]; · iexact Hb2
    isplitl [Hb3]; · iexact Hb3
    isplitl [Hb4]; · iexact Hb4
    isplitl [Hl Hr]
    · iapply hg
      isplitl [Hl]; · iexact Hl
      iexact Hr
    isplitl [Hb6]; · iexact Hb6
    isplitl [Hb7]; · iexact Hb7
    iexists (a.2 c); iexact Hw
  isplitl [HO]; · iexact HO
  iapply (result_here a c); iexact Hout

/-- The whole body, from what the call gives it to what it gives back. -/
theorem do_call (c : Dev nD) :
    iprop(opened a c ∗ owesSome c (O₀ c) ∗ given a c ∗ scratch c)
      ⊢ Wp c (prog c) fun _ => iprop(semVal (barCell c) 0 ∗ Pipeline.ownSems0 osem c ∗ scratch c ∗ owesSome c 0
          ∗ ((c : Thread nD τ).loc cc0_stg0_0 ↦{fullShare} result a c)) := by
  refine (enter a c).trans ?_
  iintro ⟨%K, #HC, H⟩
  iapply (wp_fupd _ _ _ _ _)
  iapply (tail (do_body a K c)) $$ [H]
  · isplitr; · iexact HC
    iexact H
  iintro %_ H
  iapply (leave a K c)
  isplitr; · iexact HC
  iexact H

end Cert.KernelIdeal.Run
-- ==== Proof.Region.lean ====
/-
  The two pieces of the program on each device: the host's reshape of `gamma`, and the kernel's call.
-/
module

public import proofs.«01_k».proof.Proof.Enter
public import proofs.«01_k».proof.Proof.Gen.KernelIdeal.Frame
public import Idealize.ShloMosaic.Lib.Pipeline.Regions
public import Idealize.ShloMosaic.Lib.Pipeline.ValueKit.Geometry

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] (m : (ℓ : Loc nD τ sig) → Buf (Elt F) ℓ)

local notation "𝕄" => MT nD τ sig Unit (Elt F) ℕ UU ℕ

/-! ## What the buffers hold -/

/-- A device's buffers at launch, -/
def held₀ (c : Dev nD) : Valuation τ sig (Elt F) := fun b => m (c, b)
/-- and once `gamma` is reshaped. -/
def held₁ (c : Dev nD) : Valuation τ sig (Elt F) := StableHlo.after hostOps0 (held₀ m c)

/-- The kernel's two arguments on every device. -/
def args : Args F := (fun c => held₁ m c main_arg0, fun c => held₁ m c main_v1)

/-- The buffers that outlive the call. -/
def lasting : Finset (DevRef τ sig) := (StableHlo.tcRefs τ sig).filter fun b => ¬ b.isScoped

omit [FloatOps F] in
/-- The buffers outside the call's own, as the host code holds them: -/
theorem lasting_held (c : Dev nD) (W : Valuation τ sig (Elt F)) :
    (unscopedBufs c (fun b => W b) : sProp 𝕄) = StableHlo.held (c : Thread nD τ) lasting W := by
  unfold unscopedBufs StableHlo.held lasting StableHlo.tcRefs
  rw [Finset.filter_map, BI.bigSep_map]
  rfl

/-- A whole buffer of a device. -/
abbrev full (c : Dev nD) (b : Ref sig .tc) (f : b.ty.Contents (Elt F)) : sProp 𝕄 := ((c : Thread nD τ).loc b) ↦{fullShare} f

omit [FloatOps F] in
/-- the two arguments, the weights as a matrix, and the result. -/
theorem lasting_eq (c : Dev nD) (W : Valuation τ sig (Elt F)) : (StableHlo.held (c : Thread nD τ) lasting W : sProp 𝕄)
    = iprop(full c main_arg0 (W main_arg0) ∗ full c main_arg1 (W main_arg1) ∗ full c main_v1 (W main_v1) ∗ full c main_v2 (W main_v2)) := by
  unfold StableHlo.held
  rw [bigSep_eq_bigSepL_of_eq [Proc.devRef .tc main_arg0, Proc.devRef .tc main_arg1, Proc.devRef .tc main_v1, Proc.devRef .tc main_v2]
    (by decide) (by decide)]
  rfl

/-! ## The call -/

/-- What the call's body starts from, besides its scratch buffers, -/
def entering (c : Dev nD) : sProp 𝕄 :=
  iprop(opened (args m) c ∗ argHeld (args m) c ∗ ∃ q, owns (c : Thread nD τ) gsrc q ((args m).2 c))

/-- The call on one device: the result's array as it was, then the kernel's result; the copies' debts, then none. -/
def call (c : Dev nD) : Dat τ (Elt F) Unit ℕ UU ℕ cfg0 c where
  A w := held₁ m c (Pipeline.arrRef spec0 w)
  after w _ := match w with
    | ⟨0, _⟩ => result (args m) c
  Φ t := if t.val = 0 then iprop(entering m c ∗ scratch c) else iprop(semVal (barCell c) 0 ∗ Pipeline.ownSems0 osem c ∗ scratch c)
  q _ := fullShare
  owed t := if t.val = 0 then O₀ c else 0

abbrev adm : (p : Fin 1) → (pcfgs (F := F) p).Adm := fun p => (cfgs p).toPCfg_adm

def calls : (p : Fin 1) → (c : Dev nD) → Dat τ (Elt F) Unit ℕ UU ℕ (Pipeline.pin (pcfgs (F := F)) adm p) c
  | 0 => call m

/-- At the body's start all sends and signals are owed, -/
theorem owed_start (c : Dev nD) : (call m c).owed t0_0.castSucc = O₀ c := by
  show (if (t0_0.castSucc : Fin (cfg0.N + 1)).val = 0 then O₀ c else 0) = O₀ c; exact if_pos rfl
/-- and so before the call; -/
theorem owed_zero (c : Dev nD) : (calls m 0 c).owed 0 = O₀ c := by
  show (if ((0 : Fin (cfg0.N + 1)).val = 0) then O₀ c else 0) = O₀ c; exact if_pos rfl
/-- after it nothing is. -/
theorem owed_end (c : Dev nD) : (calls m 0 c).owed (Fin.last _) = 0 := by
  show (if (Fin.last cfg0.N).val = 0 then O₀ c else 0) = 0
  rw [Fin.val_last, if_neg (by rw [show cfg0.N = 1 from N_0]; decide)]
/-- Before the call a device has what the body starts from, -/
theorem inv_start (c : Dev nD) : (calls m 0 c).Φ 0 = iprop(entering m c ∗ scratch c) := by
  show (if ((0 : Fin (cfg0.N + 1)).val = 0) then iprop(entering m c ∗ scratch c) else iprop(semVal (barCell c) 0 ∗ Pipeline.ownSems0 osem c ∗ scratch c)) = _; exact if_pos rfl
/-- after it its counters at zero and its scratch buffers. -/
theorem inv_end (c : Dev nD) : (calls m 0 c).Φ (Fin.last _) = iprop(semVal (barCell c) 0 ∗ Pipeline.ownSems0 osem c ∗ scratch c) := by
  show (if (Fin.last cfg0.N).val = 0 then iprop(entering m c ∗ scratch c) else iprop(semVal (barCell c) 0 ∗ Pipeline.ownSems0 osem c ∗ scratch c)) = _
  rw [Fin.val_last, if_neg (by rw [show cfg0.N = 1 from N_0]; decide)]

omit [FloatOps F] in
/-- What is owed, in the call's words, -/
theorem owes_in {cfg : Pipeline.Cfg sig Λ₀} {c : Dev nD} (dat : Dat τ (Elt F) Unit ℕ UU ℕ cfg c) (t : Fin (cfg.N + 1))
    (O : CellTallies nD τ sig Unit) (h : dat.owed t = O) (hr : dat.recorded t = Set.univ := by first | rfl | skip) :
    (owesSome c O : sProp 𝕄) ⊢ (dat.owesAt () t : sProp 𝕄) := by
  unfold owesSome Dat.owesAt Pipeline.owesWithin Dat.bound
  rw [h, hr]
  iintro ⟨%W, H⟩
  iexists W
  isplitr; · ipureintro; exact fun _ _ => Or.inl trivial
  iexact H

omit [FloatOps F] in
/-- and back. -/
theorem owes_out {cfg : Pipeline.Cfg sig Λ₀} {c : Dev nD} (dat : Dat τ (Elt F) Unit ℕ UU ℕ cfg c) (t : Fin (cfg.N + 1))
    (O : CellTallies nD τ sig Unit) (h : dat.owed t = O) : (dat.owesAt () t : sProp 𝕄) ⊢ owesSome c O := by
  unfold owesSome Dat.owesAt Pipeline.owesWithin
  rw [h]
  iintro ⟨%W, -, H⟩
  iexists W
  iexact H

/-- A device may wait for its result's write-back, or its staging buffer's read, whatever it still owes. -/
theorem due_above (c : Dev nD) : Above 0 (O₀ c) := by
  unfold O₀
  exact ((((((OX_above c 0).mono (by decide)).add ((OZ_above c 0).mono (by decide))).add ((OY_above c 0).mono (by decide))).add
    (bar_above _)).add (bar_above _)).add (bar_above _)

/-- At no point of the call is anything owed at the lowest level. -/
theorem owed_above (c : Dev nD) (t : Fin (cfg0.N + 1)) : Above 0 ((call m c).owed t) := by
  show Above 0 (if t.val = 0 then O₀ c else 0)
  split
  · exact due_above c
  · exact Above.zero 0

/-- The body, from the device's own number on. -/
theorem body_run (c : Dev nD) (t : Fin cfg0.N) (Q : PUnit → sProp 𝕄) :
    (Wp c (prog c) Q : sProp 𝕄) ⊢ Wp c (bodyAt0 (F := F) t) Q := by
  rw [body_eq]
  show _ ⊢ wp frame (wpE (defs₀ (F := F)) 𝒱₀ (c : Thread nD τ) none) Set.univ (.op .deviceId fun d => prog d) Q
  rw [wp_deviceId]

/-- The body does what the call asks of it. -/
theorem body_obligation (c : Dev nD) : BodyObligation (call m c) (defs₀ (F := F)) 𝒱₀ () Set.univ := fun t => by
  obtain rfl := fin_N0 t
  rw [bigSep_W0, bigSep_W0]
  rw [show (call m c).Φ t0_0.castSucc = iprop(entering m c ∗ scratch c) from rfl,
    show (call m c).Φ t0_0.succ = iprop(semVal (barCell c) 0 ∗ Pipeline.ownSems0 osem c ∗ scratch c) from rfl]
  unfold entering
  iintro ⟨⟨⟨Ho, Ha, Hg⟩, Hs⟩, HO, ⟨%d, Hb⟩⟩
  ihave HO := (owes_out (call m c) _ (O₀ c) (owed_start m c)) $$ HO
  iapply (body_run c t0_0 _)
  iapply (tail (do_call (args m) c)) $$ [Ho Ha Hg Hs HO Hb]
  · isplitl [Ho]; · iexact Ho
    isplitl [HO]; · iexact HO
    isplitr [Hs]
    · unfold given
      isplitl [Ha]; · iexact Ha
      isplitl [Hg]; · iexact Hg
      iapply (whole_any c cc0_stg0_0)
      iexists _
      iexact Hb
    iexact Hs
  iintro %_ ⟨Hv, Hos, Hs, HO, Hb⟩
  isplitl [Hv Hos Hs]
  · isplitl [Hv]; · iexact Hv
    isplitl [Hos]; · iexact Hos
    iexact Hs
  isplitl [HO]
  · iapply (owes_in (call m c) t0_0.succ 0 (owed_end m c)); iexact HO
  iapply (Entails.of_eq (owns_whole (c : Thread nD τ) cc0_stg0_0 fullShare (result (args m) c)).symm)
  iexact Hb

end Cert.KernelIdeal.Run
-- ==== Proof.Segments.lean ====
/-
  The program on each device as its two pieces, one after the other.
-/
module

public import proofs.«01_k».proof.Proof.Region

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F] (m : (ℓ : Loc nD τ sig) → Buf (Elt F) ℓ)

local notation "𝕄" => MT nD τ sig Unit (Elt F) ℕ UU ℕ
local notation "ℍ" => Pipeline.HostSeg (Name := ℕ) (U := UU) (pcfgs (F := F)) defs₀ 𝒱₀ L lv
local notation "ℝ𝕊" => Pipeline.RegionSeg (pcfgs (F := F)) adm (calls m) () defs₀ 𝒱₀ L lv

/-! ## The arrays around the call -/

/-- The kernel's first argument is the device's own `partial`. -/
theorem args_first (c : Dev nD) : (args m).1 c = held₁ m c main_arg0 := rfl

/-- What bypasses the call: a half of `partial`, and all of `gamma`. -/
def aside (c : Dev nD) : sProp 𝕄 :=
  iprop(((c : Thread nD τ).loc main_arg0 ↦{fullShare.left} (held₁ m c main_arg0 : (main_arg0 : Ref sig .tc).ty.Contents (Elt F)))
    ∗ full c main_arg1 (held₁ m c main_arg1))

/-- What a device ends with. -/
def ending (c : Dev nD) : sProp 𝕄 := iprop(aside m c ∗ full c main_v2 (result (args m) c) ∗ semVal (barCell c) 0)

/-- What rides beside the buffers up to the call. -/
def rides (c : Dev nD) : sProp 𝕄 := iprop(started (args m) c ∗ owesSome c (O₀ c))

/-- The call's one array is the result. -/
theorem arrays_eq (c : Dev nD) (Fa) : ((calls (F := F) m 0 c).arrays Fa : sProp 𝕄) = full c main_v2 (Fa 0) := by
  rw [Pipeline.arrays_eq (Pipeline.pin (pcfgs (F := F)) adm) (calls m) 0 c launch0.arr_whole ((calls m 0 c).share_full fun _ => rfl) Fa, bigSep_W0]

/-- The result's array after its one write-back. -/
theorem written (c : Dev nD) : (calls (F := F) m 0 c).arrAt 0 (Pipeline.pin (pcfgs (F := F)) adm 0).N = result (args m) c := by
  have h : (cfg0.win 0).WholeAt t0_0 := by decide +kernel
  refine Dat.arrAt_eq_of_after_last (dat := call m c) 0 t0_0 h (result (args m) c) fun j => ?_
  rfl

/-! ## The two pieces -/

/-- The reshape touches only buffers that outlive the call, -/
theorem reshape_sub : ∀ op ∈ (hostOps0 : List (HloOp τ sig (Elt F))), op.bufs ⊆ lasting := fun op h => by
  simp only [List.mem_singleton] at h; subst h
  show ({Proc.devRef .tc main_arg1, Proc.devRef .tc main_v1} : Finset (DevRef τ sig)) ⊆ lasting; decide

/-- and needs none of its own. -/
theorem reshape_fresh : ∀ op ∈ (hostOps0 : List (HloOp τ sig (Elt F))), op.fresh = ∅ := fun op h => by
  simp only [List.mem_singleton] at h; subst h; rfl

/-- The reshape of `gamma`. -/
def hostPart : ℍ := Pipeline.HostSeg.ofOps _ _ _ _ _ lasting hostOps0 reshape_sub reshape_fresh (held₀ m) (rides m)

/-- The kernel's call. -/
def callPart : ℝ𝕊 0 where
  win := launch0.win.to₀
  block_pos := launch0.block_pos
  stage_whole := launch0.stage_whole
  K := Fin 49
  osem := osem
  ho := (by decide : Pipeline.OwnSemFacts spec0 osem)
  hbody c := (body_obligation m c).loose
  hwaits c := Pipeline.cellsWaits_intro _ (calls m) () 0 c fun w s t => mayWait c _ (by
    fin_cases w; fin_cases s
    exact owed_above m c t)
  pre c := iprop(StableHlo.held (c : Thread nD τ) lasting (held₁ m c) ∗ rides m c)
  post c := iprop(ending m c ∗ owesSome c 0)
  X := entering m
  Y c := semVal (barCell c) 0
  Z := aside m
  hentry c := by
    rw [arrays_eq, lasting_eq]
    unfold rides entering aside
    iintro ⟨⟨⟨Hx, Hg, Hv, Ho⟩, Hst, HO⟩, Hos, -⟩
    imod (open_cells (args m) c) $$ [Hst Hos] with Hop
    · isplitl [Hst]; · iexact Hst
      iexact Hos
    ihave Hx := (pointsTo_share (PosShare.mem_left_op_right fullShare)).1 $$ Hx
    icases Hx with ⟨Hx, Hx'⟩
    imodintro
    isplitl [Ho]; · iexact Ho
    isplitr; · unfold Pipeline.prefHeld; rw [show (Finset.univ : Finset (Fin 0)) = ∅ from rfl, BI.bigSep_empty]; iempintro
    isplitl [HO]; · iapply (owes_in (calls m 0 c) 0 (O₀ c) (owed_zero m c)); iexact HO
    isplitr [Hx Hg]
    · isplitl [Hop]; · iexact Hop
      isplitl [Hx']; · unfold argHeld; iexists _; iexact Hx'
      iexists fullShare
      iapply (Entails.of_eq (owns_whole (c : Thread nD τ) main_v1 fullShare (held₁ m c main_v1)).symm)
      iexact Hv
    isplitl [Hx]; · iexact Hx
    iexact Hg
  hin c := by
    rw [inv_start, scopedRest0_eq]
    iintro ⟨HX, -, Hs⟩
    isplitl [HX]; · iexact HX
    unfold scratch
    iexact Hs
  hout c := by
    rw [inv_end, scopedRest0_eq]
    unfold scratch
    iintro H
    iexact H
  hexit c := by
    rw [arrays_eq, written]
    unfold ending
    iintro ⟨Ho, HO, Hv, Hz⟩
    imodintro
    isplitr [HO]
    · isplitl [Hz]; · iexact Hz
      isplitl [Ho]; · iexact Ho
      iexact Hv
    iapply (owes_out (calls m 0 c) _ 0 (owed_end m c)); iexact HO

end Cert.KernelIdeal.Run
-- ==== Proof.Run.lean ====
/-
  The launch: what each device starts with, dealt out; and the whole run, at any values of the floats.
-/
module

public import proofs.«01_k».proof.Proof.Segments
public import Idealize.ShloMosaic.Lib.Quiescent
public import Idealize.ShloMosaic.Harness.Basic

@[expose] public section

noncomputable section

namespace Cert.KernelIdeal.Run

open Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)
open Idealize.ShloMosaic.Smoke (bigSep_pair bigSep_unpair)

variable {F : FTy → Type} [FloatOps F] (m : (ℓ : Loc nD τ sig) → Buf (Elt F) ℓ) (ρ : Dev nD → PrngReg)

local notation "𝕄" => MT nD τ sig Unit (Elt F) ℕ UU ℕ

/-! ## The protocol's state, made and dealt -/

/-- What the launch makes: the staging cells' part, and the protocol's. -/
def made : UU :=
  (initOf (Pipeline.cells (Pipeline.pin (pcfgs (F := F)) adm) cellOf_inj) (Pipeline.launchToks (Pipeline.pin (pcfgs (F := F)) adm) cellOf_inj),
    launchOf barCells dmaCells allToks)

/-- The protocol's part, all of it kept with the first device until it is dealt. -/
def kept (c : Dev nD) : sProp 𝕄 := if c = 0 then BI.own (ER (launchOf barCells dmaCells allToks)) else iprop(emp)

omit [FloatOps F] in
/-- Kept with the first device, it is kept once. -/
theorem kept_all : bigSep Finset.univ (kept (F := F)) = BI.own (ER (launchOf barCells dmaCells allToks)) := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-- What every device knows: the cells' invariants, and that every barrier's first round has begun. -/
def known (κ : GSem nD τ sig → ℕ) : sProp 𝕄 := iprop(Ctx (args m) κ ∗ begun)

instance known_persistent (κ : GSem nD τ sig → ℕ) : Persistent (known m κ) := by unfold known; infer_instance

/-- What the deal gives one device. -/
def share (c : Dev nD) : sProp 𝕄 :=
  iprop(atPos ER (barCell c) 0 ∅ 0 ∗ (each fun i => openTok ER (dCell c (live i))) ∗ barToks c ∗ toks c)

/-- What a device has of its own at launch. -/
def brought (c : Dev nD) : sProp 𝕄 :=
  iprop(StableHlo.held (c : Thread nD τ) lasting (held₀ m c) ∗ credits c ∗ owes (c : Thread nD τ) (O₀ c) ∅)

/-- What a device runs from, and what it ends with. -/
abbrev atLaunch (c : Dev nD) : sProp 𝕄 := iprop(StableHlo.held (c : Thread nD τ) lasting (held₀ m c) ∗ rides m c)

/-- What a device was dealt and what it brought are what it runs from. -/
theorem launch_intro (κ : GSem nD τ sig → ℕ) (c : Dev nD) : iprop(known m κ ∗ (share c ∗ brought m c)) ⊢ atLaunch m c := by
  unfold known share brought atLaunch rides started owesSome
  iintro ⟨⟨#HC, #HB⟩, ⟨Hat, Ho, Hb, Ht⟩, Hh, Hc, HO⟩
  isplitl [Hh]; · iexact Hh
  isplitr [HO]
  · iexists κ
    isplitr; · iexact HC
    isplitr; · iexact HB
    isplitl [Hat]; · iexact Hat
    isplitl [Ho]; · iexact Ho
    isplitl [Hb]; · iexact Hb
    isplitl [Ht]; · iexact Ht
    iexact Hc
  iexists ∅
  iexact HO

omit [FloatOps F] in
/-- Of the counters only the barrier's outlives the call. -/
theorem last_sem (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- Of all a device has at launch: its own, its barrier's counter, and what it keeps for the deal. -/
theorem launch_sort (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ kept c)
      ⊢ (iprop(brought m c ∗ (semVal (barCell c) 0 ∗ kept c)) : sProp 𝕄) := by
  rw [show unscopedBufs c (fun b => m ((c : Thread nD τ).loc b)) = StableHlo.held (c : Thread nD τ) lasting (held₀ m c) from lasting_held c (held₀ m c),
    last_sem]
  unfold brought
  iintro ⟨Hh, Hs, HO, Hc, -, Hk⟩
  isplitr [Hs Hk]
  · isplitl [Hh]; · iexact Hh
    isplitl [Hc]; · iapply (credits_dealt c); iexact Hc
    iexact HO
  isplitl [Hs]; · iexact Hs
  iexact Hk

omit [FloatOps F] in
/-- Something of every cell: of the barriers', and of the copies'. -/
theorem cells_apart (Φ : GSem nD τ sig → sProp 𝕄) : bigSep (barCells ∪ dmaCells) Φ
    = iprop((bigSep Finset.univ fun c : Dev nD => Φ (barCell c)) ∗ bigSep Finset.univ fun p : Dev nD × Fin 49 => Φ (dCell p.1 (live p.2))) :=
  (BI.bigSep_union cells_disjoint).trans (congrArg₂ _ (bigSep_map ..) (bigSep_map ..))

/-- The invariants of all the cells, the barriers' and the copies' apart. -/
theorem ctx_intro (κ : GSem nD τ sig → ℕ) :
    iprop((bigSep (barCells ∪ dmaCells) fun g => cellInv ER (Rd (args m)) (κ g) g) ∗ levAts L lv) ⊢ (Ctx (args m) κ : sProp 𝕄) := by
  rw [cells_apart]
  unfold Ctx
  iintro ⟨⟨H, H'⟩, HL⟩
  isplitl [H]; · iexact H
  isplitl [H']; · iexact H'
  iexact HL

/-- At launch: the cells are made and everything is dealt. -/
theorem init :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c)) ∗ levAts L lv)
      ⊢ (|={Set.univ}=> bigSep Finset.univ (atLaunch m) : sProp 𝕄) := by
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hr : bigSep barCells (fun g => (reached ER g 0 : sProp 𝕄)) ⊢ (begun : sProp 𝕄) :=
    Entails.of_eq (bigSep_map (s := Finset.univ) barEmb (Φ := fun g : GSem nD τ sig => (reached ER g 0 : sProp 𝕄)))
  have hopen : bigSep dmaCells (fun g => (openTok ER g : sProp 𝕄))
      ⊢ bigSep Finset.univ (fun c : Dev nD => each fun i : Fin 49 => (openTok ER (dCell c (live i)) : sProp 𝕄)) :=
    Entails.of_eq (by rw [bigSep_map, bigSep_univ_prod]; rfl)
  iintro ⟨H, #HL⟩
  ihave H := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ kept c))
      ⊢ (bigSep Finset.univ fun c : Dev nD => iprop(brought m c ∗ (semVal (barCell c) 0 ∗ kept c)) : sProp 𝕄) from
    bigSep_mono fun c _ => launch_sort m ρ c) $$ H
  ihave H := bigSep_unpair $$ H; icases H with ⟨HB, H⟩
  ihave H := bigSep_unpair $$ H; icases H with ⟨Hv, Hk⟩
  ihave Hu := (show bigSep Finset.univ (kept (F := F)) ⊢ BI.own (ER (launchOf barCells dmaCells allToks)) from Entails.of_eq kept_all) $$ Hk
  imod (Rounds.fund_launch ER (Rd (args m)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := known m κ) (Φ := fun c => iprop(share c ∗ brought m c)) fun c _ => launch_intro m κ c)
  isplitr
  · unfold known
    isplitr
    · iapply (ctx_intro m κ)
      isplitr; · iexact Hinv
      iexact HL
    iapply hr
    iexact Hr
  iapply bigSep_pair
  isplitr [HB]
  · ihave Htok := (toks_dealt (F := F)) $$ Htok
    icases Htok with ⟨Hb, Ht⟩
    unfold share
    iapply bigSep_pair; isplitl [Hat]; · iapply hat $$ Hat
    iapply bigSep_pair; isplitl [Hopen]; · iapply hopen $$ Hopen
    iapply bigSep_pair; isplitl [Hb]; · iexact Hb
    iexact Ht
  · iexact HB

/-! ## The run -/

/-- No other counter outlives the call. -/
theorem last_sem_eq : ∀ sm : SemLoc sig, sm.isScoped .tc = false → sm = .reg barS := by decide

/-- The reshape leaves `partial` and `gamma` as they were, -/
theorem held_x (c : Dev nD) : held₁ m c main_arg0 = m ((c : Thread nD τ).loc main_arg0) := V_main_arg0 m c
/-- Neither does it change `gamma`. -/
theorem held_g (c : Dev nD) : held₁ m c main_arg1 = m ((c : Thread nD τ).loc main_arg1) := V_main_arg1 m c

abbrev pieces : List (Pipeline.Seg (pcfgs (F := F)) adm (calls m) () defs₀ 𝒱₀ L lv) := [.host (hostPart m), .region (callPart m)]

set_option backward.isDefEq.respectTransparency.types false in
/-- Every run of the eight devices ends, faulting nowhere, with the arguments as they were, each device's result the
    kernel's, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_v2) = result (args m) c) ∧ r.2.sem = fun _ => 0) :=
  Pipeline.θ_run_regions_kit_sems (pcfgs (F := F)) adm (calls m) () cellOf_inj EP defs₀ 𝒱₀ L lv m ρ main (pieces m)
    (fun c Q => by rw [Gen.main_segs adm (calls m) () 𝒱₀ L lv (hostPart m) (callPart m) rfl c])
    (by simp only [pieces, Pipeline.Seg.pipes_host, Pipeline.Seg.pipes_region, Pipeline.Seg.pipes_nil]; decide)
    (O₀ := O₀) (hL := L_of_ne) (G := kept) (u₀ := made)
    (hu₀ := by
      unfold made
      iintro Hu
      ihave H := (ownU_pair _ _) $$ Hu
      icases H with ⟨HP, HX⟩
      imodintro
      isplitl [HP]; · iexact HP
      rw [kept_all]; iexact HX)
    (T₀ := atLaunch m) (Tₙ := ending m)
    (hch := by
      refine ⟨fun c => .rfl, fun c => .rfl, fun c => ?_⟩
      show iprop(ending m c ∗ owesSome c 0) ⊢ iprop(ending m c ∗ ∃ W, owes (c : Thread nD τ) (0 : CellTallies nD τ sig Unit) W)
      exact .rfl)
    (hinit := init m ρ)
    (QY := fun c s => (s.mem ((c : Thread nD τ).loc main_arg0) = held₁ m c main_arg0 ∧ s.mem ((c : Thread nD τ).loc main_arg1) = held₁ m c main_arg1
        ∧ s.mem ((c : Thread nD τ).loc main_v2) = result (args m) c) ∧ s.sem (barCell c) = 0)
    (hfin := fun c s' => by
      unfold ending aside
      iintro ⟨⟨⟨Hx, Hg⟩, Ho, Hb⟩, HSI⟩
      icombine HSI Hx gives %hx
      icombine HSI Hg gives %hg
      icombine HSI Ho gives %ho
      icombine HSI Hb gives %hb
      imodintro
      isplitr
      · ipureintro
        exact ⟨⟨Buf.eq_of_forall_mem_univ hx, Buf.eq_of_forall_mem_univ hg, Buf.eq_of_forall_mem_univ ho⟩, by simpa using hb⟩
      iexact HSI)
    (hQ := fun s h hs => ⟨fun c => ⟨(h c).1.1.trans (held_x m c), (h c).1.2.1.trans (held_g m c), (h c).1.2.2⟩,
      sem_eq_zero hs fun c sm hsm => by
        obtain rfl := last_sem_eq sm hsm
        exact (h c).2⟩)

end Cert.KernelIdeal.Run
-- ==== Proof.Frames.lean ====
/-
  The claims that each program runs: it ends, faults nowhere, leaves its arguments and its semaphores as it found them.
-/
module

public import proofs.«01_k».proof.Defs
public import proofs.«01_k».proof.Proof.Run
public import proofs.«01_k».proof.Proof.Gen.Kernel
public import proofs.«01_k».proof.Proof.Gen.ReferenceIdeal.Run

@[expose] public section

noncomputable section

namespace Cert.Proof

open Idealize.ShloMosaic Idealize.SL.Sem

/-- The two texts of the kernel have one body, -/
theorem bodies_same : (Cert.Kernel.defs₀ (F := Bits)) = (Cert.KernelIdeal.defs₀ (F := Bits)) := by
  unfold Cert.Kernel.defs₀ Cert.KernelIdeal.defs₀
  congr 1
  funext l x
  match l, x with
  | ⟨0, _⟩, (t, s) => rfl
  | ⟨n + 1, h⟩, _ => exact absurd h (Nat.not_lt.2 (Nat.le_add_left _ _))

/-- and so one meaning. -/
theorem defs_same : (Cert.Kernel.defs (F := Bits)) = (Cert.KernelIdeal.defs (F := Bits)) :=
  congrArg (Pipeline.defs (Cert.KernelIdeal.pcfgs (F := Bits))) bodies_same

/-- The kernel as compiled: the run, at the values the machine computes with. -/
theorem frame_kernel : Cert.quiescent_Kernel := fun m ρ _ => by
  rw [defs_same]
  exact (θ_run (Cert.KernelIdeal.defs (F := Bits)) _ _).mono (fun _ h => ⟨fun c => ⟨(h.1 c).1, (h.1 c).2.1⟩, h.2⟩)
    (Cert.KernelIdeal.Run.run_main (F := Bits) m ρ)

/-- The kernel over the reals. -/
theorem frame_ideal : Cert.quiescent_KernelIdeal := fun m ρ _ =>
  (θ_run Cert.KernelIdeal.defs _ _).mono (fun _ h => ⟨fun c => ⟨(h.1 c).1, (h.1 c).2.1⟩, h.2⟩)
    (Cert.KernelIdeal.Run.run_main (F := Ideal) m ρ)

/-- The reference, which has no semaphores. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

end Cert.Proof
-- ==== Proof.Block.lean ====
/-
  What one block of the result is over the reals: each row over its root mean square, times the weights.
-/
module

public import proofs.«01_k».proof.Proof.Program
public import Idealize.ShloMosaic.Lib.Pipeline.Value
public import Idealize.ShloMosaic.Lib.ValueIdxCore
public import Idealize.ShloMosaic.PureOps.Ideal.Laws

@[expose] public section

noncomputable section

namespace Cert.KernelIdeal.Run

open Cert.KernelIdeal.Gen
open Idealize.ShloMosaic Idealize.ShloMosaic.ValueIdx

/-- The number of columns, and the number added to a row's mean square, as the programs spell them. -/
abbrev columns : EReal := Ideal.ofBits .f32 0x44800000#32
abbrev floor₀ : EReal := Ideal.ofBits .f32 0x358637BD#32

/-- The number of columns is positive. -/
theorem columns_pos : 0 < columns := by
  show (0 : EReal) < Ideal.ieee 8 23 0x44800000#32
  unfold Ideal.ieee
  rw [show (0x44800000#32).extractLsb' (8 + 23) 1 = 0#1 by decide, show (0x44800000#32).extractLsb' 23 8 = 137#8 by decide,
    show (0x44800000#32).extractLsb' 0 23 = 0#23 by decide]
  norm_num

/-- So is the number added to the mean square. -/
theorem floor_pos : 0 < floor₀ := by
  show (0 : EReal) < Ideal.ieee 8 23 0x358637BD#32
  unfold Ideal.ieee
  rw [show (0x358637BD#32).extractLsb' (8 + 23) 1 = 0#1 by decide, show (0x358637BD#32).extractLsb' 23 8 = 107#8 by decide,
    show (0x358637BD#32).extractLsb' 0 23 = 407485#23 by decide]
  norm_num

/-- The mean square of a row, with the number added to it. -/
def power (y : Fin 1024 → EReal) : EReal := Ideal.div (∑ k, y k * y k) columns + floor₀

/-- A square is not negative, at the infinities either. -/
theorem square_nonneg (x : EReal) : 0 ≤ x * x := by
  rcases le_total 0 x with h | h
  · exact EReal.mul_nonneg h h
  · exact EReal.mul_nonneg_iff.mpr (.inr ⟨h, h⟩)

/-- So the mean square with the number added is positive. -/
theorem power_pos (y : Fin 1024 → EReal) : 0 < power y := by
  unfold power Ideal.div
  rw [if_neg columns_pos.ne']
  exact lt_of_lt_of_le floor_pos (le_add_of_nonneg_left
    (EReal.mul_nonneg (Finset.sum_nonneg fun k _ => square_nonneg _) (EReal.inv_nonneg_of_nonneg columns_pos.le)))

/-- Multiplying by the inverse root of a positive number is dividing by its root. -/
theorem mul_rsqrt (x v : EReal) (h : 0 < v) : x * Ideal.rsqrt v = Ideal.div x (Ideal.sqrt v) := by
  induction v with
  | bot => exact absurd h (not_lt_bot)
  | top => rw [Ideal.rsqrt_top, Ideal.sqrt_top]; unfold Ideal.div; rw [if_neg EReal.top_ne_zero, EReal.inv_top]
  | coe v =>
    have hv : 0 < v := EReal.coe_pos.mp h
    rw [Ideal.rsqrt_coe, Ideal.sqrt_coe, if_neg hv.not_gt, if_neg hv.ne', if_neg hv.not_gt]
    unfold Ideal.div
    rw [if_neg (EReal.coe_ne_zero.mpr (Real.sqrt_pos.mpr hv).ne'), EReal.coe_inv]

/-- The sum along a row of a block. -/
theorem row_sum (s : FVec Ideal S64x1024 .f32) (r : Fin 64) :
    multiReduction .add [1] S64 s 0x00000000#32 reduces_S64x1024_S64 (.inl rfl) rfl (ix1 r) = ∑ k : Fin 1024, s (ix2 r k) := by
  refine (Ideal.multiReduction_add_single s _ reduces_S64x1024_S64 (.inl rfl) rfl (ix1 r)).trans ?_
  refine Finset.sum_congr rfl fun k _ => congrArg s (funext fun d => Fin.ext ?_)
  match d with
  | ⟨0, _⟩ => rfl
  | ⟨1, _⟩ => rfl

/-- The inverse root mean square a block's row is multiplied by. -/
theorem invRms_apply (s : FVec Ideal S64x1024 .f32) (r : Fin 64) (q : Fin 1024) :
    invRms s (ix2 r q) = Ideal.rsqrt (power fun k => s (ix2 r k)) := by
  unfold invRms
  refine (broadcastTo_apply _ broadcasts_S64x1_S64x1024 (ix2 r q) (ix2 r (0 : Fin 1)) fun d => ?_).trans ?_
  · match d with
    | ⟨0, _⟩ => rfl
    | ⟨1, _⟩ => rfl
  refine congrArg (fun t : EReal => Ideal.rsqrt (Ideal.div t columns + floor₀)) ?_
  refine (shapeCast_apply _ shapeCasts_S64_S64x1 (ix2 r (0 : Fin 1)) (ix1 r) ?_).trans ?_
  · rw [Shape.rowMajor_val_one, Shape.rowMajor_val_two]
    show r.val = r.val * 1 + 0
    omega
  exact row_sum _ r

/-- A block of the result, at an index. -/
theorem normed_apply (s : FVec Ideal S64x1024 .f32) (g : FVec Ideal S1x1024 .f32) (r : Fin 64) (q : Fin 1024) :
    normed s g (ix2 r q)
      = Ideal.div (s (ix2 r q)) (Ideal.sqrt (power fun k => s (ix2 r k))) * g (ix2 (0 : Fin 1) q) := by
  unfold normed
  show s (ix2 r q) * invRms s (ix2 r q) * broadcastTo S64x1024 g broadcasts_S1x1024_S64x1024 (ix2 r q) = _
  rw [invRms_apply, mul_rsqrt _ _ (power_pos _)]
  refine congrArg (Ideal.div _ _ * ·) (broadcastTo_apply g _ _ _ fun d => ?_)
  match d with
  | ⟨0, _⟩ => rfl
  | ⟨1, _⟩ => rfl

end Cert.KernelIdeal.Run
-- ==== Proof.Rows.lean ====
/-
  Which rows of the whole array a device's blocks are, and what the sums its blocks of the result are made
  from hold: the two partial arrays added, on the rows the block is written to.
-/
module

public import proofs.«01_k».proof.Proof.Output
public import Idealize.ShloMosaic.Lib.Pipeline.Value
public import Idealize.ShloMosaic.PureOps.Ideal.Laws

@[expose] public section

noncomputable section

namespace Cert.KernelIdeal.Run

open Cert.KernelIdeal.Gen
open Idealize.ShloMosaic Idealize.ShloMosaic.ValueIdx

/-- A device's coordinate along y. -/
def yc (c : Dev nD) : Fin 2 := (![0, 0, 1, 1, 0, 0, 1, 1] : Fin 8 → Fin 2) c

/-- The first of the rows, in the whole array, of a block of a device's result. -/
def top (c : Dev nD) (s : Fin 16) : ℕ := 1024 * (yc c).val + 64 * blk c s

/-- A block's rows lie inside the whole array. -/
theorem top_lt (c : Dev nD) (s : Fin 16) : top c s + 64 ≤ 2048 := by
  have := blk_lt c s; have := (yc c).isLt; unfold top; omega

/-- Row `r` of a block, in the whole array. -/
def rowOf (c : Dev nD) (s : Fin 16) (r : Fin 64) : Fin 2048 := ⟨top c s + r.val, by have := top_lt c s; omega⟩

/-- The copies read the rows the blocks are written to: a device its own, and its y neighbour the same. -/
theorem offL_eq (c : Dev nD) (k : Fin 8) : offL c k 0 = 0 ∧ offL c k 1 = top c (Fin.castLE (by decide) k) ∧ offL c k 2 = 0 := by
  revert c k; decide +kernel
/-- The y neighbour's copies of what it gives away read the same rows. -/
theorem offS_eq (c : Dev nD) (k : Fin 8) : offS (yn c) k 0 = 0 ∧ offS (yn c) k 1 = top c (Fin.castLE (by decide) k) ∧ offS (yn c) k 2 = 0 := by
  revert c k; decide +kernel
/-- What the x and the z neighbour send on are sums of theirs on these rows. -/
theorem top_ofX (c : Dev nD) (j : Fin 4) : top (xn c) (Fin.castLE (by decide) j) = top c (ofX j) := by revert c j; decide +kernel
/-- And so are those the z neighbour sends on. -/
theorem top_ofZ (c : Dev nD) (j : Fin 4) : top (zn c) (Fin.castLE (by decide) j) = top c (ofZ j) := by revert c j; decide +kernel
/-- Of a device and its y neighbour one has the first partial array and one the second. -/
theorem yc_yn (c : Dev nD) : (yc c = 0 ∧ yc (yn c) = 1) ∨ (yc c = 1 ∧ yc (yn c) = 0) := by revert c; decide

/-- Sixty-four rows of an argument, read where they start. -/
theorem read_rows (off : Fin 3 → ℕ) (inb : ∀ d, off d + S1x64x1024.size d ≤ S1x2048x1024.size d) (t : ℕ)
    (h : off 0 = 0 ∧ off 1 = t ∧ off 2 = 0) (v : Vec Ideal S1x2048x1024 .f32) (r : Fin 64) (q : Fin 1024) (R : Fin 2048) (hR : R.val = t + r.val) :
    (((Memref.whole (sig := sig) main_arg0).slice (Rect.unit (s := S1x2048x1024) off S1x64x1024.size inb) (fun _ => rfl)).squeeze S64x1024
      squeezes_S1x64x1024_S64x1024).view.read (Elt Ideal) v (ix2 r q) = v (ix3 (0 : Fin 1) R q) := by
  obtain ⟨h0, h1, h2⟩ := h
  have e : Shape.reshapeEquiv (s := S1x64x1024) (s' := S64x1024) (by decide) (ix2 r q) = ix3 (0 : Fin 1) r q := by
    apply Shape.reshapeEquiv_eq_of_rowMajor
    rw [Shape.rowMajor_val_three, Shape.rowMajor_val_two]
    show ((0 : ℕ) * 64 + r.val) * 1024 + q.val = r.val * 1024 + q.val
    omega
  show v ((Rect.unit (s := S1x2048x1024) off S1x64x1024.size inb).emb (Shape.reshapeEquiv (s := S1x64x1024) (s' := S64x1024) (by decide) (ix2 r q))) = _
  rw [e]
  refine congrArg v (funext fun d => Fin.ext ?_)
  match d with
  | ⟨0, _⟩ => show off 0 + 1 * 0 = 0; omega
  | ⟨1, _⟩ => show off 1 + 1 * r.val = R.val; omega
  | ⟨2, _⟩ => show off 2 + 1 * q.val = q.val; omega

/-- The two partial arrays added. -/
def added (X : Vec Ideal ⟨3, ![2, 2048, 1024]⟩ .f32) (R : Fin 2048) (q : Fin 1024) : EReal := X (ix3 (0 : Fin 2) R q) + X (ix3 (1 : Fin 2) R q)

variable (a : Args Ideal) (X : Vec Ideal ⟨3, ![2, 2048, 1024]⟩ .f32)
  (hX : ∀ c R q, a.1 c (ix3 (0 : Fin 1) R q) = X (ix3 (yc c) R q))
include hX

/-- The sum of a device's block and its y neighbour's is the two partial arrays added, on the block's rows. -/
theorem sval_apply (c : Dev nD) (k : Fin 8) (r : Fin 64) (q : Fin 1024) (R : Fin 2048) (hR : R.val = top c (Fin.castLE (by decide) k) + r.val) :
    sval a c k (ix2 r q) = added X R q := by
  show lblk a c k (ix2 r q) + sblk a (yn c) k (ix2 r q) = _
  have e : lblk a c k (ix2 r q) = X (ix3 (yc c) R q) := (read_rows _ _ _ (offL_eq c k) _ r q R hR).trans (hX ..)
  have e' : sblk a (yn c) k (ix2 r q) = X (ix3 (yc (yn c)) R q) := (read_rows _ _ _ (offS_eq c k) _ r q R hR).trans (hX ..)
  rw [e, e']
  unfold added
  rcases yc_yn c with ⟨h, h'⟩ | ⟨h, h'⟩ <;> rw [h, h']
  exact add_comm _ _

/-- So is what every block of the result is made from, whoever added it up. -/
theorem osum_apply (c : Dev nD) (s : Fin 16) (r : Fin 64) (q : Fin 1024) : osum a c s (ix2 r q) = added X (rowOf c s r) q := by
  have hs := s.isLt
  by_cases h : s.val < 8
  · unfold osum; rw [dif_pos h]
    exact sval_apply a X hX c _ r q _ rfl
  by_cases h' : s.val < 12
  · obtain ⟨j, rfl⟩ : ∃ j, s = ofX j := ⟨⟨s.val - 8, by omega⟩, Fin.ext (by show s.val = 8 + (s.val - 8); omega)⟩
    rw [osum_ofX]
    exact sval_apply a X hX (xn c) _ r q _ (congrArg (· + r.val) (top_ofX c _).symm)
  · obtain ⟨j, rfl⟩ : ∃ j, s = ofZ j := ⟨⟨s.val - 12, by omega⟩, Fin.ext (by show s.val = 12 + (s.val - 12); omega)⟩
    rw [osum_ofZ]
    exact sval_apply a X hX (zn c) _ r q _ (congrArg (· + r.val) (top_ofZ c _).symm)

end Cert.KernelIdeal.Run
-- ==== Proof.Equation.lean ====
/-
  What the reference computes, at an index; and that each device's result is its half of it.
-/
module

public import proofs.«01_k».proof.Proof.Block
public import proofs.«01_k».proof.Proof.Rows
public import proofs.«01_k».proof.Proof.Gen.ReferenceIdeal.Read
public import Idealize.ShloMosaic.Lib.Layout

@[expose] public section

noncomputable section

namespace Cert.KernelIdeal.Run

open Cert.KernelIdeal.Gen
open Idealize.ShloMosaic Idealize.ShloMosaic.ValueIdx
open Cert.ReferenceIdeal.Read

variable (X : Vec Ideal ⟨3, ![2, 2048, 1024]⟩ .f32) (G : Vec Ideal ⟨1, ![1024]⟩ .f32)

/-- The reference's sum over the partial arrays. -/
theorem total_apply (R : Fin 2048) (q : Fin 1024) : val_main_v0 (F := Ideal) X (ix2 R q) = added X R q := by
  rw [val_main_v0_apply, val_main_cst_apply, Ideal.ofBits_def, Ideal.ofBits_zero_f32, zero_add, Fin.sum_univ_two]
  refine congrArg₂ (· + ·) (congrArg X (funext fun d => ?_)) (congrArg X (funext fun d => ?_)) <;>
    match d with
    | ⟨0, _⟩ => rfl
    | ⟨1, _⟩ => rfl
    | ⟨2, _⟩ => rfl

/-- What the reference takes the root of. -/
theorem meanSquare_apply (R : Fin 2048) : val_main_v7 (F := Ideal) X (ix2 R (0 : Fin 1)) = power (added X R) := by
  have e : val_main_v3 (F := Ideal) X (ix2 R (0 : Fin 1)) = ∑ k, added X R k * added X R k := by
    rw [val_main_v3_apply, val_main_v2_apply, val_main_cst_0_apply, Ideal.ofBits_def, Ideal.ofBits_zero_f32, zero_add]
    refine Finset.sum_congr rfl fun k _ => ?_
    rw [val_main_v1_apply, show idx_main_v2 (idx_main_v3 (ix2 R (0 : Fin 1))) k = ix2 R k from funext fun d =>
      match d with
      | ⟨0, _⟩ => rfl
      | ⟨1, _⟩ => rfl, total_apply]
    rfl
  rw [val_main_v7_apply, val_main_v5_apply, e, val_main_v4_apply, val_main_cst_1_apply, val_main_v6_apply, val_main_cst_2_apply]
  rfl

/-- The reference's result: the sum, over its row's root mean square, times the weight. -/
theorem reference_apply (R : Fin 2048) (q : Fin 1024) :
    val_main_v14 (F := Ideal) X G (ix2 R q) = Ideal.div (added X R q) (Ideal.sqrt (power (added X R))) * G (ix1 q) := by
  rw [val_main_v14_apply, val_main_v13_apply, val_main_v10_apply, total_apply, val_main_v9_apply, val_main_v8_apply,
    show idx_main_v9 (ix2 R q) = ix2 R (0 : Fin 1) from funext fun d =>
      match d with
      | ⟨0, _⟩ => rfl
      | ⟨1, _⟩ => rfl,
    meanSquare_apply, val_main_v12_apply, val_main_v11_apply,
    show idx_main_v11 (idx_main_v12 (ix2 R q)) = ix1 q from funext fun d =>
      match d with
      | ⟨0, _⟩ => rfl]
  rfl

/-- A device's result is the half of the reference's that its y coordinate names. -/
theorem result_apply (a : Args Ideal) (hX : ∀ c R q, a.1 c (ix3 (0 : Fin 1) R q) = X (ix3 (yc c) R q))
    (hG : ∀ c q, a.2 c (ix2 (0 : Fin 1) q) = G (ix1 q)) (c : Dev nD) (p q : Fin 1024) (R : Fin 2048)
    (hR : R.val = 1024 * (yc c).val + p.val) : result a c (ix2 p q) = val_main_v14 (F := Ideal) X G (ix2 R q) := by
  have hp := p.isLt
  have hb := blk_slotAt c ⟨p.val / 64, by omega⟩
  have hrow : rowOf c (slotAt c (p.val / 64)) ⟨p.val % 64, Nat.mod_lt _ (by decide)⟩ = R := by
    apply Fin.ext
    show 1024 * (yc c).val + 64 * blk c (slotAt c (p.val / 64)) + p.val % 64 = R.val
    rw [hb, hR]
    show _ + 64 * (p.val / 64) + _ = _
    omega
  show normed (osum a c (slotAt c (p.val / 64))) (a.2 c) (ix2 (⟨p.val % 64, Nat.mod_lt _ (by decide)⟩ : Fin 64) q) = _
  rw [normed_apply, reference_apply, hG]
  simp only [osum_apply a X hX, hrow]

end Cert.KernelIdeal.Run
-- ==== Proof.Algebraic.lean ====
/-
  The value claim: over the reals the kernel's result is the reference's, laid out on the devices.
-/
module

public import proofs.«01_k».proof.Defs
public import proofs.«01_k».proof.Proof.Run
public import proofs.«01_k».proof.Proof.Equation
public import proofs.«01_k».proof.Proof.Gen.ReferenceIdeal.Run

@[expose] public section

noncomputable section

namespace Cert.KernelIdeal.Run

open Cert.KernelIdeal.Gen
open Idealize.ShloMosaic Idealize.ShloMosaic.TcCoe Idealize.ShloMosaic.ValueIdx Idealize.ShloMosaic.StableHlo

variable (m : (ℓ : Loc nD τ sig) → Buf (Elt Ideal) ℓ)

/-- What the kernel is given of the weights: they, as a matrix of one row. -/
theorem weights_first (c : Dev nD) (q : Fin 1024) : (args m).2 c (ix2 (0 : Fin 1) q) = m ((c : Thread nD τ).loc main_arg1) (ix1 q) := by
  have e : held₁ m c main_v1 = shapeCast S1x1024 (m ((c : Thread nD τ).loc main_arg1)) shapeCasts_S1024_S1x1024 := by
    unfold held₁ hostOps0 held₀
    after_results
    rfl
  show held₁ m c main_v1 (ix2 (0 : Fin 1) q) = _
  rw [e]
  refine shapeCast_apply _ shapeCasts_S1024_S1x1024 _ (ix1 q) ?_
  rw [Shape.rowMajor_val_one, Shape.rowMajor_val_two]
  show q.val = 0 * 1024 + q.val
  omega

/-- The block of an array cut along y that a device has. -/
theorem mesh_y (c : Dev nD) : Layout.meshLin [2, 2, 2] c.val [1] = (yc c).val := by revert c; decide

/-- A device's result, given its part of the whole array and the weights. -/
theorem result_block (X : Vec Ideal ⟨3, ![2, 2048, 1024]⟩ .f32) (G : Vec Ideal ⟨1, ![1024]⟩ .f32)
    (h : ∀ c : Dev nD, m ((c : Thread nD τ).loc main_arg0)
        = Layout.blockN ⟨3, ![1, 2048, 1024]⟩ ⟨3, ![2, 2048, 1024]⟩ (Layout.meshBlock [2, 2, 2] ![[1], [], []] c) X
      ∧ m ((c : Thread nD τ).loc main_arg1) = G) (c : Dev nD) :
    result (args m) c = Layout.blockN ⟨2, ![1024, 1024]⟩ ⟨2, ![2048, 1024]⟩ (Layout.meshBlock [2, 2, 2] ![[1], []] c)
      (Cert.ReferenceIdeal.Read.val_main_v14 (F := Ideal) X G) := by
  funext i
  obtain ⟨p, q, rfl⟩ : ∃ p q, i = ix2 p q := ⟨i 0, i 1, eq_ix2 i⟩
  have hy := (yc c).isLt
  refine (result_apply X G (args m) (fun c R q => ?_) (fun c q => ?_) c p q ⟨1024 * (yc c).val + p.val, by omega⟩ rfl).trans ?_
  · show held₁ m c main_arg0 _ = _
    rw [held_x, (h c).1, Layout.blockN_apply]
    refine congrArg X (funext fun d => Fin.ext ?_)
    rw [Layout.TilesN.idx_val]
    match d with
    | ⟨0, _⟩ => show Layout.meshLin [2, 2, 2] c.val [1] * 1 + 0 = (yc c).val; rw [mesh_y]; omega
    | ⟨1, _⟩ => show 0 * 2048 + R.val = R.val; omega
    | ⟨2, _⟩ => show 0 * 1024 + q.val = q.val; omega
  · rw [weights_first, (h c).2]
  · rw [Layout.blockN_apply]
    refine congrArg _ (funext fun d => Fin.ext ?_)
    rw [Layout.TilesN.idx_val]
    match d with
    | ⟨0, _⟩ => show 1024 * (yc c).val + p.val = Layout.meshLin [2, 2, 2] c.val [1] * 1024 + p.val; rw [mesh_y]; omega
    | ⟨1, _⟩ => show q.val = 0 * 1024 + q.val; omega

end Cert.KernelIdeal.Run

namespace Cert.Proof

open Idealize.ShloMosaic Idealize.SL.Sem

/-- From a device's part of the arguments each, the kernel's run ends with the device's half of what the reference's run ends with. -/
theorem algebraic : Cert.algebraic_KernelIdeal_ReferenceIdeal := fun m g m' g' _ hagree =>
  ⟨_, (θ_run Cert.KernelIdeal.defs _ _).mono
      (fun _ h c => ⟨(h.1 c).2.2.trans (Cert.KernelIdeal.Run.result_block m _ _ hagree c), (h.1 c).1, (h.1 c).2.1⟩)
      (Cert.KernelIdeal.Run.run_main (F := Ideal) m g),
    (θ_run Cert.ReferenceIdeal.defs _ _).mono
      (fun _ h => ⟨(h 0).1.trans (Cert.ReferenceIdeal.Read.val_main_v14_eq _ _), (h 0).2.1, (h 0).2.2⟩)
      (Cert.ReferenceIdeal.Value.run (F := Ideal) m' g')⟩

end Cert.Proof
-- ==== Proof.lean ====
/-
  The certificate's claims, put together.
-/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
